-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 4, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1024 : Shape := ⟨1, ![1024]⟩
abbrev S256x1024 : Shape := ⟨2, ![256, 1024]⟩
abbrev S8x32x1024 : Shape := ⟨3, ![8, 32, 1024]⟩
abbrev S_ : Shape := ⟨0, ![]⟩
abbrev S8 : Shape := ⟨1, ![8]⟩
abbrev S4 : Shape := ⟨1, ![4]⟩
abbrev S1x256x1024 : Shape := ⟨3, ![1, 256, 1024]⟩
abbrev S32x1024 : Shape := ⟨2, ![32, 1024]⟩
abbrev S1x32x1024 : Shape := ⟨3, ![1, 32, 1024]⟩
abbrev S1 : Shape := ⟨1, ![1]⟩
abbrev S32 : Shape := ⟨1, ![32]⟩
abbrev S32x1 : Shape := ⟨2, ![32, 1]⟩
abbrev S1x1024 : Shape := ⟨2, ![1, 1024]⟩

abbrev nBuf : Space → Nat
  | .hbm => 4
  | .vmem => 14
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1024, .f32⟩
  | .hbm, ⟨3, _⟩ => ⟨S1024x1024, .f32⟩
  | .local _ .vmem, ⟨0, _⟩ => ⟨S1024, .f32⟩
  | .local _ .vmem, ⟨1, _⟩ => ⟨S256x1024, .f32⟩
  | .local _ .vmem, ⟨2, _⟩ => ⟨S8x32x1024, .bf16⟩
  | .local _ .vmem, ⟨3, _⟩ => ⟨S8x32x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S8x32x1024, .bf16⟩
  | .local _ .vmem, ⟨8, _⟩ => ⟨S8x32x1024, .bf16⟩
  | .local _ .vmem, ⟨9, _⟩ => ⟨S8x32x1024, .bf16⟩
  | .local _ .vmem, ⟨10, _⟩ => ⟨S8x32x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  (ofTc nBuf bufTy 1 100 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_18 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_13 v2
  let c16_i32_17 : BitVec 32 := 16#32
  let v34 : BitVec 32 := Scalar.muli v30 c16_i32_17
  let v35 : BitVec 32 := Scalar.addi c0_i32_18 v34
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_19 : BitVec 32 := 4#32
  let v36 : BitVec 32 := Scalar.muli v5 c4_i32_19
  let v37 : BitVec 32 := Scalar.addi v35 v36
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v38 : BitVec 32 := Scalar.muli v8 c1_i32_20
  let v39 : BitVec 32 := Scalar.addi v37 v38
  v39.toNat
def k0_dev2 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v40 : BitVec 32 := Scalar.muli v2 c16_i32_22
  let v41 : BitVec 32 := Scalar.addi c0_i32_23 v40
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v31 : BitVec 32 := Scalar.xori v5 c1_i32_14
  let c4_i32_24 : BitVec 32 := 4#32
  let v42 : BitVec 32 := Scalar.muli v31 c4_i32_24
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v44 : BitVec 32 := Scalar.muli v8 c1_i32_25
  let v45 : BitVec 32 := Scalar.addi v43 v44
  v45.toNat
def k0_dev3 (d0 : Dev nD) : Nat :=
  let c0_i32_28 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_27 : BitVec 32 := 16#32
  let v46 : BitVec 32 := Scalar.muli v2 c16_i32_27
  let v47 : BitVec 32 := Scalar.addi c0_i32_28 v46
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_29 : BitVec 32 := 4#32
  let v48 : BitVec 32 := Scalar.muli v5 c4_i32_29
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v32 : BitVec 32 := Scalar.xori v8 c1_i32_15
  let c1_i32_30 : BitVec 32 := 1#32
  let v50 : BitVec 32 := Scalar.muli v32 c1_i32_30
  let v51 : BitVec 32 := Scalar.addi v49 v50
  v51.toNat
def k0_off1 (d0 : Dev nD) : Fin 3 → Nat :=
  let c0_i32_41 : BitVec 32 := 0#32
  let c1_i32_34 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.addi v2 v5
  let c2_i32_2 : BitVec 32 := 2#32
  let c0_i32 : BitVec 32 := 0#32
  let v10 : BitVec 1 := Scalar.cmpi .eq c2_i32_2 c0_i32
  let c1_i32_3 : BitVec 32 := 1#32
  let v11 : BitVec 32 := Scalar.select v10 c1_i32_3 c2_i32_2
  let v12 : BitVec 32 := Scalar.remsi v9 v11
  let c0_i32_5 : BitVec 32 := 0#32
  let v14 : BitVec 1 := Scalar.cmpi .slt v12 c0_i32_5
  let c0_i32_6 : BitVec 32 := 0#32
  let v15 : BitVec 1 := Scalar.cmpi .slt v11 c0_i32_6
  let v16 : BitVec 1 := Scalar.xori v14 v15
  let c0_i32_4 : BitVec 32 := 0#32
  let v13 : BitVec 1 := Scalar.cmpi .ne v12 c0_i32_4
  let v17 : BitVec 1 := Scalar.andi v16 v13
  let v18 : BitVec 32 := Scalar.addi v12 v11
  let v19 : BitVec 32 := Scalar.select v17 v18 v12
  let v59 : BitVec 32 := Scalar.subi c1_i32_34 v19
  let c512_i32_35 : BitVec 32 := 512#32
  let v60 : BitVec 32 := Scalar.muli v59 c512_i32_35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v8 v21
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let c0_i32_10 : BitVec 32 := 0#32
  let v23 : BitVec 1 := Scalar.cmpi .ne v22 c0_i32_10
  let v27 : BitVec 1 := Scalar.andi v26 v23
  let v28 : BitVec 32 := Scalar.addi v22 v21
  let v29 : BitVec 32 := Scalar.select v27 v28 v22
  let c256_i32_36 : BitVec 32 := 256#32
  let v61 : BitVec 32 := Scalar.muli v29 c256_i32_36
  let v62 : BitVec 32 := Scalar.addi v60 v61
  let c0_i32_42 : BitVec 32 := 0#32
  ![0, v62.toNat, 0]
def k0_off2 (d0 : Dev nD) : Fin 3 → Nat :=
  let c0_i32_43 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.addi v2 v5
  let c2_i32_2 : BitVec 32 := 2#32
  let c0_i32 : BitVec 32 := 0#32
  let v10 : BitVec 1 := Scalar.cmpi .eq c2_i32_2 c0_i32
  let c1_i32_3 : BitVec 32 := 1#32
  let v11 : BitVec 32 := Scalar.select v10 c1_i32_3 c2_i32_2
  let v12 : BitVec 32 := Scalar.remsi v9 v11
  let c0_i32_5 : BitVec 32 := 0#32
  let v14 : BitVec 1 := Scalar.cmpi .slt v12 c0_i32_5
  let c0_i32_6 : BitVec 32 := 0#32
  let v15 : BitVec 1 := Scalar.cmpi .slt v11 c0_i32_6
  let v16 : BitVec 1 := Scalar.xori v14 v15
  let c0_i32_4 : BitVec 32 := 0#32
  let v13 : BitVec 1 := Scalar.cmpi .ne v12 c0_i32_4
  let v17 : BitVec 1 := Scalar.andi v16 v13
  let v18 : BitVec 32 := Scalar.addi v12 v11
  let v19 : BitVec 32 := Scalar.select v17 v18 v12
  let c512_i32 : BitVec 32 := 512#32
  let v52 : BitVec 32 := Scalar.muli v19 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v8 v21
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let c0_i32_10 : BitVec 32 := 0#32
  let v23 : BitVec 1 := Scalar.cmpi .ne v22 c0_i32_10
  let v27 : BitVec 1 := Scalar.andi v26 v23
  let v28 : BitVec 32 := Scalar.addi v22 v21
  let v29 : BitVec 32 := Scalar.select v27 v28 v22
  let c256_i32 : BitVec 32 := 256#32
  let v53 : BitVec 32 := Scalar.muli v29 c256_i32
  let v54 : BitVec 32 := Scalar.addi v52 v53
  let c0_i32_44 : BitVec 32 := 0#32
  ![0, v54.toNat, 0]
def k0_off3 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.addi v2 v5
  let c2_i32_2 : BitVec 32 := 2#32
  let c0_i32 : BitVec 32 := 0#32
  let v10 : BitVec 1 := Scalar.cmpi .eq c2_i32_2 c0_i32
  let c1_i32_3 : BitVec 32 := 1#32
  let v11 : BitVec 32 := Scalar.select v10 c1_i32_3 c2_i32_2
  let v12 : BitVec 32 := Scalar.remsi v9 v11
  let c0_i32_5 : BitVec 32 := 0#32
  let v14 : BitVec 1 := Scalar.cmpi .slt v12 c0_i32_5
  let c0_i32_6 : BitVec 32 := 0#32
  let v15 : BitVec 1 := Scalar.cmpi .slt v11 c0_i32_6
  let v16 : BitVec 1 := Scalar.xori v14 v15
  let c0_i32_4 : BitVec 32 := 0#32
  let v13 : BitVec 1 := Scalar.cmpi .ne v12 c0_i32_4
  let v17 : BitVec 1 := Scalar.andi v16 v13
  let v18 : BitVec 32 := Scalar.addi v12 v11
  let v19 : BitVec 32 := Scalar.select v17 v18 v12
  let c512_i32 : BitVec 32 := 512#32
  let v52 : BitVec 32 := Scalar.muli v19 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v8 v21
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let c0_i32_10 : BitVec 32 := 0#32
  let v23 : BitVec 1 := Scalar.cmpi .ne v22 c0_i32_10
  let v27 : BitVec 1 := Scalar.andi v26 v23
  let v28 : BitVec 32 := Scalar.addi v22 v21
  let v29 : BitVec 32 := Scalar.select v27 v28 v22
  let c256_i32 : BitVec 32 := 256#32
  let v53 : BitVec 32 := Scalar.muli v29 c256_i32
  let v54 : BitVec 32 := Scalar.addi v52 v53
  let c0_i32_45 : BitVec 32 := 0#32
  ![v54.toNat, 0]
def k0_dev4 (d0 : Dev nD) : Nat :=
  let c0_i32_57 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_13 v2
  let c16_i32_56 : BitVec 32 := 16#32
  let v80 : BitVec 32 := Scalar.muli v30 c16_i32_56
  let v81 : BitVec 32 := Scalar.addi c0_i32_57 v80
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_58 : BitVec 32 := 4#32
  let v82 : BitVec 32 := Scalar.muli v5 c4_i32_58
  let v83 : BitVec 32 := Scalar.addi v81 v82
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v84 : BitVec 32 := Scalar.muli v8 c1_i32_59
  let v85 : BitVec 32 := Scalar.addi v83 v84
  v85.toNat
def k0_dev5 (d0 : Dev nD) : Nat :=
  let c0_i32_72 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_13 v2
  let c16_i32_71 : BitVec 32 := 16#32
  let v99 : BitVec 32 := Scalar.muli v30 c16_i32_71
  let v100 : BitVec 32 := Scalar.addi c0_i32_72 v99
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_73 : BitVec 32 := 4#32
  let v101 : BitVec 32 := Scalar.muli v5 c4_i32_73
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v103 : BitVec 32 := Scalar.muli v8 c1_i32_74
  let v104 : BitVec 32 := Scalar.addi v102 v103
  v104.toNat
def k0_dev6 (d0 : Dev nD) : Nat :=
  let c0_i32_87 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_13 v2
  let c16_i32_86 : BitVec 32 := 16#32
  let v118 : BitVec 32 := Scalar.muli v30 c16_i32_86
  let v119 : BitVec 32 := Scalar.addi c0_i32_87 v118
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_88 : BitVec 32 := 4#32
  let v120 : BitVec 32 := Scalar.muli v5 c4_i32_88
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_89 : BitVec 32 := 1#32
  let v122 : BitVec 32 := Scalar.muli v8 c1_i32_89
  let v123 : BitVec 32 := Scalar.addi v121 v122
  v123.toNat
def k0_dev7 (d0 : Dev nD) : Nat :=
  let c0_i32_102 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_13 v2
  let c16_i32_101 : BitVec 32 := 16#32
  let v137 : BitVec 32 := Scalar.muli v30 c16_i32_101
  let v138 : BitVec 32 := Scalar.addi c0_i32_102 v137
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_103 : BitVec 32 := 4#32
  let v139 : BitVec 32 := Scalar.muli v5 c4_i32_103
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v141 : BitVec 32 := Scalar.muli v8 c1_i32_104
  let v142 : BitVec 32 := Scalar.addi v140 v141
  v142.toNat
def k0_dev8 (d0 : Dev nD) : Nat :=
  let c0_i32_117 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_13 v2
  let c16_i32_116 : BitVec 32 := 16#32
  let v156 : BitVec 32 := Scalar.muli v30 c16_i32_116
  let v157 : BitVec 32 := Scalar.addi c0_i32_117 v156
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_118 : BitVec 32 := 4#32
  let v158 : BitVec 32 := Scalar.muli v5 c4_i32_118
  let v159 : BitVec 32 := Scalar.addi v157 v158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v160 : BitVec 32 := Scalar.muli v8 c1_i32_119
  let v161 : BitVec 32 := Scalar.addi v159 v160
  v161.toNat
def k0_dev9 (d0 : Dev nD) : Nat :=
  let c0_i32_131 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_13 v2
  let c16_i32_130 : BitVec 32 := 16#32
  let v175 : BitVec 32 := Scalar.muli v30 c16_i32_130
  let v176 : BitVec 32 := Scalar.addi c0_i32_131 v175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_132 : BitVec 32 := 4#32
  let v177 : BitVec 32 := Scalar.muli v5 c4_i32_132
  let v178 : BitVec 32 := Scalar.addi v176 v177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_133 : BitVec 32 := 1#32
  let v179 : BitVec 32 := Scalar.muli v8 c1_i32_133
  let v180 : BitVec 32 := Scalar.addi v178 v179
  v180.toNat
def k0_dev10 (d0 : Dev nD) : Nat :=
  let c0_i32_145 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_13 v2
  let c16_i32_144 : BitVec 32 := 16#32
  let v194 : BitVec 32 := Scalar.muli v30 c16_i32_144
  let v195 : BitVec 32 := Scalar.addi c0_i32_145 v194
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_146 : BitVec 32 := 4#32
  let v196 : BitVec 32 := Scalar.muli v5 c4_i32_146
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_147 : BitVec 32 := 1#32
  let v198 : BitVec 32 := Scalar.muli v8 c1_i32_147
  let v199 : BitVec 32 := Scalar.addi v197 v198
  v199.toNat
def k0_dev11 (d0 : Dev nD) : Nat :=
  let c0_i32_159 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_13 v2
  let c16_i32_158 : BitVec 32 := 16#32
  let v213 : BitVec 32 := Scalar.muli v30 c16_i32_158
  let v214 : BitVec 32 := Scalar.addi c0_i32_159 v213
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_160 : BitVec 32 := 4#32
  let v215 : BitVec 32 := Scalar.muli v5 c4_i32_160
  let v216 : BitVec 32 := Scalar.addi v214 v215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_161 : BitVec 32 := 1#32
  let v217 : BitVec 32 := Scalar.muli v8 c1_i32_161
  let v218 : BitVec 32 := Scalar.addi v216 v217
  v218.toNat
def k0_dev12 (d0 : Dev nD) : Nat :=
  let c0_i32_202 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_201 : BitVec 32 := 16#32
  let v272 : BitVec 32 := Scalar.muli v2 c16_i32_201
  let v273 : BitVec 32 := Scalar.addi c0_i32_202 v272
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_203 : BitVec 32 := 4#32
  let v274 : BitVec 32 := Scalar.muli v5 c4_i32_203
  let v275 : BitVec 32 := Scalar.addi v273 v274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v32 : BitVec 32 := Scalar.xori v8 c1_i32_15
  let c1_i32_204 : BitVec 32 := 1#32
  let v276 : BitVec 32 := Scalar.muli v32 c1_i32_204
  let v277 : BitVec 32 := Scalar.addi v275 v276
  v277.toNat
def k0_dev13 (d0 : Dev nD) : Nat :=
  let c0_i32_214 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_13 v2
  let c16_i32_213 : BitVec 32 := 16#32
  let v286 : BitVec 32 := Scalar.muli v30 c16_i32_213
  let v287 : BitVec 32 := Scalar.addi c0_i32_214 v286
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_215 : BitVec 32 := 4#32
  let v288 : BitVec 32 := Scalar.muli v5 c4_i32_215
  let v289 : BitVec 32 := Scalar.addi v287 v288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_216 : BitVec 32 := 1#32
  let v290 : BitVec 32 := Scalar.muli v8 c1_i32_216
  let v291 : BitVec 32 := Scalar.addi v289 v290
  v291.toNat
def k0_off4 (d0 : Dev nD) (c0_i32_181 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.addi v2 v5
  let c2_i32_2 : BitVec 32 := 2#32
  let c0_i32 : BitVec 32 := 0#32
  let v10 : BitVec 1 := Scalar.cmpi .eq c2_i32_2 c0_i32
  let c1_i32_3 : BitVec 32 := 1#32
  let v11 : BitVec 32 := Scalar.select v10 c1_i32_3 c2_i32_2
  let v12 : BitVec 32 := Scalar.remsi v9 v11
  let c0_i32_5 : BitVec 32 := 0#32
  let v14 : BitVec 1 := Scalar.cmpi .slt v12 c0_i32_5
  let c0_i32_6 : BitVec 32 := 0#32
  let v15 : BitVec 1 := Scalar.cmpi .slt v11 c0_i32_6
  let v16 : BitVec 1 := Scalar.xori v14 v15
  let c0_i32_4 : BitVec 32 := 0#32
  let v13 : BitVec 1 := Scalar.cmpi .ne v12 c0_i32_4
  let v17 : BitVec 1 := Scalar.andi v16 v13
  let v18 : BitVec 32 := Scalar.addi v12 v11
  let v19 : BitVec 32 := Scalar.select v17 v18 v12
  let c512_i32 : BitVec 32 := 512#32
  let v52 : BitVec 32 := Scalar.muli v19 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v8 v21
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let c0_i32_10 : BitVec 32 := 0#32
  let v23 : BitVec 1 := Scalar.cmpi .ne v22 c0_i32_10
  let v27 : BitVec 1 := Scalar.andi v26 v23
  let v28 : BitVec 32 := Scalar.addi v22 v21
  let v29 : BitVec 32 := Scalar.select v27 v28 v22
  let c256_i32 : BitVec 32 := 256#32
  let v53 : BitVec 32 := Scalar.muli v29 c256_i32
  let v54 : BitVec 32 := Scalar.addi v52 v53
  let v242 : BitVec 32 := Scalar.addi v54 c0_i32_181
  let c0_i32_222 : BitVec 32 := 0#32
  ![v242.toNat, 0]
def k0_dev14 (d0 : Dev nD) : Nat :=
  let c0_i32_258 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_257 : BitVec 32 := 16#32
  let v346 : BitVec 32 := Scalar.muli v2 c16_i32_257
  let v347 : BitVec 32 := Scalar.addi c0_i32_258 v346
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_259 : BitVec 32 := 4#32
  let v348 : BitVec 32 := Scalar.muli v5 c4_i32_259
  let v349 : BitVec 32 := Scalar.addi v347 v348
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v32 : BitVec 32 := Scalar.xori v8 c1_i32_15
  let c1_i32_260 : BitVec 32 := 1#32
  let v350 : BitVec 32 := Scalar.muli v32 c1_i32_260
  let v351 : BitVec 32 := Scalar.addi v349 v350
  v351.toNat
def k0_dev15 (d0 : Dev nD) : Nat :=
  let c0_i32_270 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_13 v2
  let c16_i32_269 : BitVec 32 := 16#32
  let v360 : BitVec 32 := Scalar.muli v30 c16_i32_269
  let v361 : BitVec 32 := Scalar.addi c0_i32_270 v360
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_271 : BitVec 32 := 4#32
  let v362 : BitVec 32 := Scalar.muli v5 c4_i32_271
  let v363 : BitVec 32 := Scalar.addi v361 v362
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_272 : BitVec 32 := 1#32
  let v364 : BitVec 32 := Scalar.muli v8 c1_i32_272
  let v365 : BitVec 32 := Scalar.addi v363 v364
  v365.toNat
def k0_dev16 (d0 : Dev nD) : Nat :=
  let c0_i32_314 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_313 : BitVec 32 := 16#32
  let v420 : BitVec 32 := Scalar.muli v2 c16_i32_313
  let v421 : BitVec 32 := Scalar.addi c0_i32_314 v420
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_315 : BitVec 32 := 4#32
  let v422 : BitVec 32 := Scalar.muli v5 c4_i32_315
  let v423 : BitVec 32 := Scalar.addi v421 v422
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v32 : BitVec 32 := Scalar.xori v8 c1_i32_15
  let c1_i32_316 : BitVec 32 := 1#32
  let v424 : BitVec 32 := Scalar.muli v32 c1_i32_316
  let v425 : BitVec 32 := Scalar.addi v423 v424
  v425.toNat
def k0_dev17 (d0 : Dev nD) : Nat :=
  let c0_i32_326 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_13 v2
  let c16_i32_325 : BitVec 32 := 16#32
  let v434 : BitVec 32 := Scalar.muli v30 c16_i32_325
  let v435 : BitVec 32 := Scalar.addi c0_i32_326 v434
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_327 : BitVec 32 := 4#32
  let v436 : BitVec 32 := Scalar.muli v5 c4_i32_327
  let v437 : BitVec 32 := Scalar.addi v435 v436
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_328 : BitVec 32 := 1#32
  let v438 : BitVec 32 := Scalar.muli v8 c1_i32_328
  let v439 : BitVec 32 := Scalar.addi v437 v438
  v439.toNat
def k0_dev18 (d0 : Dev nD) : Nat :=
  let c0_i32_370 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_369 : BitVec 32 := 16#32
  let v494 : BitVec 32 := Scalar.muli v2 c16_i32_369
  let v495 : BitVec 32 := Scalar.addi c0_i32_370 v494
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_371 : BitVec 32 := 4#32
  let v496 : BitVec 32 := Scalar.muli v5 c4_i32_371
  let v497 : BitVec 32 := Scalar.addi v495 v496
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v32 : BitVec 32 := Scalar.xori v8 c1_i32_15
  let c1_i32_372 : BitVec 32 := 1#32
  let v498 : BitVec 32 := Scalar.muli v32 c1_i32_372
  let v499 : BitVec 32 := Scalar.addi v497 v498
  v499.toNat
def k0_dev19 (d0 : Dev nD) : Nat :=
  let c0_i32_382 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v30 : BitVec 32 := Scalar.subi c1_i32_13 v2
  let c16_i32_381 : BitVec 32 := 16#32
  let v508 : BitVec 32 := Scalar.muli v30 c16_i32_381
  let v509 : BitVec 32 := Scalar.addi c0_i32_382 v508
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_383 : BitVec 32 := 4#32
  let v510 : BitVec 32 := Scalar.muli v5 c4_i32_383
  let v511 : BitVec 32 := Scalar.addi v509 v510
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_384 : BitVec 32 := 1#32
  let v512 : BitVec 32 := Scalar.muli v8 c1_i32_384
  let v513 : BitVec 32 := Scalar.addi v511 v512
  v513.toNat
def k0_dev20 (d0 : Dev nD) : Nat :=
  let c0_i32_426 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_425 : BitVec 32 := 16#32
  let v568 : BitVec 32 := Scalar.muli v2 c16_i32_425
  let v569 : BitVec 32 := Scalar.addi c0_i32_426 v568
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_427 : BitVec 32 := 4#32
  let v570 : BitVec 32 := Scalar.muli v5 c4_i32_427
  let v571 : BitVec 32 := Scalar.addi v569 v570
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v32 : BitVec 32 := Scalar.xori v8 c1_i32_15
  let c1_i32_428 : BitVec 32 := 1#32
  let v572 : BitVec 32 := Scalar.muli v32 c1_i32_428
  let v573 : BitVec 32 := Scalar.addi v571 v572
  v573.toNat
def k0_dev21 (d0 : Dev nD) : Nat :=
  let c0_i32_438 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_437 : BitVec 32 := 16#32
  let v582 : BitVec 32 := Scalar.muli v2 c16_i32_437
  let v583 : BitVec 32 := Scalar.addi c0_i32_438 v582
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v31 : BitVec 32 := Scalar.xori v5 c1_i32_14
  let c4_i32_439 : BitVec 32 := 4#32
  let v584 : BitVec 32 := Scalar.muli v31 c4_i32_439
  let v585 : BitVec 32 := Scalar.addi v583 v584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_440 : BitVec 32 := 1#32
  let v586 : BitVec 32 := Scalar.muli v8 c1_i32_440
  let v587 : BitVec 32 := Scalar.addi v585 v586
  v587.toNat
def k0_dev22 (d0 : Dev nD) : Nat :=
  let c0_i32_482 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_481 : BitVec 32 := 16#32
  let v642 : BitVec 32 := Scalar.muli v2 c16_i32_481
  let v643 : BitVec 32 := Scalar.addi c0_i32_482 v642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_483 : BitVec 32 := 4#32
  let v644 : BitVec 32 := Scalar.muli v5 c4_i32_483
  let v645 : BitVec 32 := Scalar.addi v643 v644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v32 : BitVec 32 := Scalar.xori v8 c1_i32_15
  let c1_i32_484 : BitVec 32 := 1#32
  let v646 : BitVec 32 := Scalar.muli v32 c1_i32_484
  let v647 : BitVec 32 := Scalar.addi v645 v646
  v647.toNat
def k0_dev23 (d0 : Dev nD) : Nat :=
  let c0_i32_494 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_493 : BitVec 32 := 16#32
  let v656 : BitVec 32 := Scalar.muli v2 c16_i32_493
  let v657 : BitVec 32 := Scalar.addi c0_i32_494 v656
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v31 : BitVec 32 := Scalar.xori v5 c1_i32_14
  let c4_i32_495 : BitVec 32 := 4#32
  let v658 : BitVec 32 := Scalar.muli v31 c4_i32_495
  let v659 : BitVec 32 := Scalar.addi v657 v658
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_496 : BitVec 32 := 1#32
  let v660 : BitVec 32 := Scalar.muli v8 c1_i32_496
  let v661 : BitVec 32 := Scalar.addi v659 v660
  v661.toNat
def k0_dev24 (d0 : Dev nD) : Nat :=
  let c0_i32_538 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_537 : BitVec 32 := 16#32
  let v716 : BitVec 32 := Scalar.muli v2 c16_i32_537
  let v717 : BitVec 32 := Scalar.addi c0_i32_538 v716
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_539 : BitVec 32 := 4#32
  let v718 : BitVec 32 := Scalar.muli v5 c4_i32_539
  let v719 : BitVec 32 := Scalar.addi v717 v718
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v32 : BitVec 32 := Scalar.xori v8 c1_i32_15
  let c1_i32_540 : BitVec 32 := 1#32
  let v720 : BitVec 32 := Scalar.muli v32 c1_i32_540
  let v721 : BitVec 32 := Scalar.addi v719 v720
  v721.toNat
def k0_dev25 (d0 : Dev nD) : Nat :=
  let c0_i32_550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_549 : BitVec 32 := 16#32
  let v730 : BitVec 32 := Scalar.muli v2 c16_i32_549
  let v731 : BitVec 32 := Scalar.addi c0_i32_550 v730
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v31 : BitVec 32 := Scalar.xori v5 c1_i32_14
  let c4_i32_551 : BitVec 32 := 4#32
  let v732 : BitVec 32 := Scalar.muli v31 c4_i32_551
  let v733 : BitVec 32 := Scalar.addi v731 v732
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_552 : BitVec 32 := 1#32
  let v734 : BitVec 32 := Scalar.muli v8 c1_i32_552
  let v735 : BitVec 32 := Scalar.addi v733 v734
  v735.toNat
def k0_dev26 (d0 : Dev nD) : Nat :=
  let c0_i32_594 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_593 : BitVec 32 := 16#32
  let v790 : BitVec 32 := Scalar.muli v2 c16_i32_593
  let v791 : BitVec 32 := Scalar.addi c0_i32_594 v790
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_595 : BitVec 32 := 4#32
  let v792 : BitVec 32 := Scalar.muli v5 c4_i32_595
  let v793 : BitVec 32 := Scalar.addi v791 v792
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v32 : BitVec 32 := Scalar.xori v8 c1_i32_15
  let c1_i32_596 : BitVec 32 := 1#32
  let v794 : BitVec 32 := Scalar.muli v32 c1_i32_596
  let v795 : BitVec 32 := Scalar.addi v793 v794
  v795.toNat
def k0_dev27 (d0 : Dev nD) : Nat :=
  let c0_i32_606 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_605 : BitVec 32 := 16#32
  let v804 : BitVec 32 := Scalar.muli v2 c16_i32_605
  let v805 : BitVec 32 := Scalar.addi c0_i32_606 v804
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v31 : BitVec 32 := Scalar.xori v5 c1_i32_14
  let c4_i32_607 : BitVec 32 := 4#32
  let v806 : BitVec 32 := Scalar.muli v31 c4_i32_607
  let v807 : BitVec 32 := Scalar.addi v805 v806
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_608 : BitVec 32 := 1#32
  let v808 : BitVec 32 := Scalar.muli v8 c1_i32_608
  let v809 : BitVec 32 := Scalar.addi v807 v808
  v809.toNat
def k0_dev28 (d0 : Dev nD) : Nat :=
  let c0_i32_634 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_633 : BitVec 32 := 16#32
  let v834 : BitVec 32 := Scalar.muli v2 c16_i32_633
  let v835 : BitVec 32 := Scalar.addi c0_i32_634 v834
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v31 : BitVec 32 := Scalar.xori v5 c1_i32_14
  let c4_i32_635 : BitVec 32 := 4#32
  let v836 : BitVec 32 := Scalar.muli v31 c4_i32_635
  let v837 : BitVec 32 := Scalar.addi v835 v836
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_636 : BitVec 32 := 1#32
  let v838 : BitVec 32 := Scalar.muli v8 c1_i32_636
  let v839 : BitVec 32 := Scalar.addi v837 v838
  v839.toNat
def k0_off5 (d0 : Dev nD) (c0_i32_646 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.addi v2 v5
  let c2_i32_2 : BitVec 32 := 2#32
  let c0_i32 : BitVec 32 := 0#32
  let v10 : BitVec 1 := Scalar.cmpi .eq c2_i32_2 c0_i32
  let c1_i32_3 : BitVec 32 := 1#32
  let v11 : BitVec 32 := Scalar.select v10 c1_i32_3 c2_i32_2
  let v12 : BitVec 32 := Scalar.remsi v9 v11
  let c0_i32_5 : BitVec 32 := 0#32
  let v14 : BitVec 1 := Scalar.cmpi .slt v12 c0_i32_5
  let c0_i32_6 : BitVec 32 := 0#32
  let v15 : BitVec 1 := Scalar.cmpi .slt v11 c0_i32_6
  let v16 : BitVec 1 := Scalar.xori v14 v15
  let c0_i32_4 : BitVec 32 := 0#32
  let v13 : BitVec 1 := Scalar.cmpi .ne v12 c0_i32_4
  let v17 : BitVec 1 := Scalar.andi v16 v13
  let v18 : BitVec 32 := Scalar.addi v12 v11
  let v19 : BitVec 32 := Scalar.select v17 v18 v12
  let c512_i32_31 : BitVec 32 := 512#32
  let v55 : BitVec 32 := Scalar.muli v19 c512_i32_31
  let c1_i32_32 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v8 v21
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let c0_i32_10 : BitVec 32 := 0#32
  let v23 : BitVec 1 := Scalar.cmpi .ne v22 c0_i32_10
  let v27 : BitVec 1 := Scalar.andi v26 v23
  let v28 : BitVec 32 := Scalar.addi v22 v21
  let v29 : BitVec 32 := Scalar.select v27 v28 v22
  let v56 : BitVec 32 := Scalar.subi c1_i32_32 v29
  let c256_i32_33 : BitVec 32 := 256#32
  let v57 : BitVec 32 := Scalar.muli v56 c256_i32_33
  let v58 : BitVec 32 := Scalar.addi v55 v57
  let v854 : BitVec 32 := Scalar.addi v58 c0_i32_646
  let c0_i32_648 : BitVec 32 := 0#32
  ![v854.toNat, 0]
def k0_dev29 (d0 : Dev nD) : Nat :=
  let c0_i32_668 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_667 : BitVec 32 := 16#32
  let v871 : BitVec 32 := Scalar.muli v2 c16_i32_667
  let v872 : BitVec 32 := Scalar.addi c0_i32_668 v871
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v31 : BitVec 32 := Scalar.xori v5 c1_i32_14
  let c4_i32_669 : BitVec 32 := 4#32
  let v873 : BitVec 32 := Scalar.muli v31 c4_i32_669
  let v874 : BitVec 32 := Scalar.addi v872 v873
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_670 : BitVec 32 := 1#32
  let v875 : BitVec 32 := Scalar.muli v8 c1_i32_670
  let v876 : BitVec 32 := Scalar.addi v874 v875
  v876.toNat
def k0_dev30 (d0 : Dev nD) : Nat :=
  let c0_i32_702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_701 : BitVec 32 := 16#32
  let v908 : BitVec 32 := Scalar.muli v2 c16_i32_701
  let v909 : BitVec 32 := Scalar.addi c0_i32_702 v908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v31 : BitVec 32 := Scalar.xori v5 c1_i32_14
  let c4_i32_703 : BitVec 32 := 4#32
  let v910 : BitVec 32 := Scalar.muli v31 c4_i32_703
  let v911 : BitVec 32 := Scalar.addi v909 v910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_704 : BitVec 32 := 1#32
  let v912 : BitVec 32 := Scalar.muli v8 c1_i32_704
  let v913 : BitVec 32 := Scalar.addi v911 v912
  v913.toNat
def k0_dev31 (d0 : Dev nD) : Nat :=
  let c0_i32_736 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_735 : BitVec 32 := 16#32
  let v945 : BitVec 32 := Scalar.muli v2 c16_i32_735
  let v946 : BitVec 32 := Scalar.addi c0_i32_736 v945
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v31 : BitVec 32 := Scalar.xori v5 c1_i32_14
  let c4_i32_737 : BitVec 32 := 4#32
  let v947 : BitVec 32 := Scalar.muli v31 c4_i32_737
  let v948 : BitVec 32 := Scalar.addi v946 v947
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v949 : BitVec 32 := Scalar.muli v8 c1_i32_738
  let v950 : BitVec 32 := Scalar.addi v948 v949
  v950.toNat
def k0_dev32 (d0 : Dev nD) : Nat :=
  let c0_i32_770 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_769 : BitVec 32 := 16#32
  let v982 : BitVec 32 := Scalar.muli v2 c16_i32_769
  let v983 : BitVec 32 := Scalar.addi c0_i32_770 v982
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v31 : BitVec 32 := Scalar.xori v5 c1_i32_14
  let c4_i32_771 : BitVec 32 := 4#32
  let v984 : BitVec 32 := Scalar.muli v31 c4_i32_771
  let v985 : BitVec 32 := Scalar.addi v983 v984
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_772 : BitVec 32 := 1#32
  let v986 : BitVec 32 := Scalar.muli v8 c1_i32_772
  let v987 : BitVec 32 := Scalar.addi v985 v986
  v987.toNat
def k0_dev33 (d0 : Dev nD) : Nat :=
  let c0_i32_804 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_803 : BitVec 32 := 16#32
  let v1019 : BitVec 32 := Scalar.muli v2 c16_i32_803
  let v1020 : BitVec 32 := Scalar.addi c0_i32_804 v1019
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v31 : BitVec 32 := Scalar.xori v5 c1_i32_14
  let c4_i32_805 : BitVec 32 := 4#32
  let v1021 : BitVec 32 := Scalar.muli v31 c4_i32_805
  let v1022 : BitVec 32 := Scalar.addi v1020 v1021
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_806 : BitVec 32 := 1#32
  let v1023 : BitVec 32 := Scalar.muli v8 c1_i32_806
  let v1024 : BitVec 32 := Scalar.addi v1022 v1023
  v1024.toNat
def k0_dev34 (d0 : Dev nD) : Nat :=
  let c0_i32_838 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_837 : BitVec 32 := 16#32
  let v1056 : BitVec 32 := Scalar.muli v2 c16_i32_837
  let v1057 : BitVec 32 := Scalar.addi c0_i32_838 v1056
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v31 : BitVec 32 := Scalar.xori v5 c1_i32_14
  let c4_i32_839 : BitVec 32 := 4#32
  let v1058 : BitVec 32 := Scalar.muli v31 c4_i32_839
  let v1059 : BitVec 32 := Scalar.addi v1057 v1058
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_840 : BitVec 32 := 1#32
  let v1060 : BitVec 32 := Scalar.muli v8 c1_i32_840
  let v1061 : BitVec 32 := Scalar.addi v1059 v1060
  v1061.toNat
def k0_dev35 (d0 : Dev nD) : Nat :=
  let c0_i32_872 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_871 : BitVec 32 := 16#32
  let v1093 : BitVec 32 := Scalar.muli v2 c16_i32_871
  let v1094 : BitVec 32 := Scalar.addi c0_i32_872 v1093
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v31 : BitVec 32 := Scalar.xori v5 c1_i32_14
  let c4_i32_873 : BitVec 32 := 4#32
  let v1095 : BitVec 32 := Scalar.muli v31 c4_i32_873
  let v1096 : BitVec 32 := Scalar.addi v1094 v1095
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_874 : BitVec 32 := 1#32
  let v1097 : BitVec 32 := Scalar.muli v8 c1_i32_874
  let v1098 : BitVec 32 := Scalar.addi v1096 v1097
  v1098.toNat
def k0_off6 (d0 : Dev nD) (c0_i32_906 : BitVec 32) : Fin 2 → Nat :=
  let c1_i32_34 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.addi v2 v5
  let c2_i32_2 : BitVec 32 := 2#32
  let c0_i32 : BitVec 32 := 0#32
  let v10 : BitVec 1 := Scalar.cmpi .eq c2_i32_2 c0_i32
  let c1_i32_3 : BitVec 32 := 1#32
  let v11 : BitVec 32 := Scalar.select v10 c1_i32_3 c2_i32_2
  let v12 : BitVec 32 := Scalar.remsi v9 v11
  let c0_i32_5 : BitVec 32 := 0#32
  let v14 : BitVec 1 := Scalar.cmpi .slt v12 c0_i32_5
  let c0_i32_6 : BitVec 32 := 0#32
  let v15 : BitVec 1 := Scalar.cmpi .slt v11 c0_i32_6
  let v16 : BitVec 1 := Scalar.xori v14 v15
  let c0_i32_4 : BitVec 32 := 0#32
  let v13 : BitVec 1 := Scalar.cmpi .ne v12 c0_i32_4
  let v17 : BitVec 1 := Scalar.andi v16 v13
  let v18 : BitVec 32 := Scalar.addi v12 v11
  let v19 : BitVec 32 := Scalar.select v17 v18 v12
  let v59 : BitVec 32 := Scalar.subi c1_i32_34 v19
  let c512_i32_35 : BitVec 32 := 512#32
  let v60 : BitVec 32 := Scalar.muli v59 c512_i32_35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v8 v21
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let c0_i32_10 : BitVec 32 := 0#32
  let v23 : BitVec 1 := Scalar.cmpi .ne v22 c0_i32_10
  let v27 : BitVec 1 := Scalar.andi v26 v23
  let v28 : BitVec 32 := Scalar.addi v22 v21
  let v29 : BitVec 32 := Scalar.select v27 v28 v22
  let c256_i32_36 : BitVec 32 := 256#32
  let v61 : BitVec 32 := Scalar.muli v29 c256_i32_36
  let v62 : BitVec 32 := Scalar.addi v60 v61
  let v1136 : BitVec 32 := Scalar.addi v62 c0_i32_906
  let c0_i32_908 : BitVec 32 := 0#32
  ![v1136.toNat, 0]
def k0_off7 (d0 : Dev nD) (c0_i32_1082 : BitVec 32) : Fin 2 → Nat :=
  let c1_i32_37 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : BitVec 32 := Scalar.addi v2 v5
  let c2_i32_2 : BitVec 32 := 2#32
  let c0_i32 : BitVec 32 := 0#32
  let v10 : BitVec 1 := Scalar.cmpi .eq c2_i32_2 c0_i32
  let c1_i32_3 : BitVec 32 := 1#32
  let v11 : BitVec 32 := Scalar.select v10 c1_i32_3 c2_i32_2
  let v12 : BitVec 32 := Scalar.remsi v9 v11
  let c0_i32_5 : BitVec 32 := 0#32
  let v14 : BitVec 1 := Scalar.cmpi .slt v12 c0_i32_5
  let c0_i32_6 : BitVec 32 := 0#32
  let v15 : BitVec 1 := Scalar.cmpi .slt v11 c0_i32_6
  let v16 : BitVec 1 := Scalar.xori v14 v15
  let c0_i32_4 : BitVec 32 := 0#32
  let v13 : BitVec 1 := Scalar.cmpi .ne v12 c0_i32_4
  let v17 : BitVec 1 := Scalar.andi v16 v13
  let v18 : BitVec 32 := Scalar.addi v12 v11
  let v19 : BitVec 32 := Scalar.select v17 v18 v12
  let v63 : BitVec 32 := Scalar.subi c1_i32_37 v19
  let c512_i32_38 : BitVec 32 := 512#32
  let v64 : BitVec 32 := Scalar.muli v63 c512_i32_38
  let c1_i32_39 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi v8 v21
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let c0_i32_10 : BitVec 32 := 0#32
  let v23 : BitVec 1 := Scalar.cmpi .ne v22 c0_i32_10
  let v27 : BitVec 1 := Scalar.andi v26 v23
  let v28 : BitVec 32 := Scalar.addi v22 v21
  let v29 : BitVec 32 := Scalar.select v27 v28 v22
  let v65 : BitVec 32 := Scalar.subi c1_i32_39 v29
  let c256_i32_40 : BitVec 32 := 256#32
  let v66 : BitVec 32 := Scalar.muli v65 c256_i32_40
  let v67 : BitVec 32 := Scalar.addi v64 v66
  let v1320 : BitVec 32 := Scalar.addi v67 c0_i32_1082
  let c0_i32_1084 : BitVec 32 := 0#32
  ![v1320.toNat, 0]
abbrev stage0_0 : Fin 1 → Memref sig .tc .vmem S1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x1024x1024 : Shape := ⟨3, ![2, 1024, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S1x1024, .f32⟩
  | .hbm, ⟨20, _⟩ => ⟨S1024x1024, .f32⟩
  | .hbm, ⟨21, _⟩ => ⟨S1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Prog.lean ====
/-
The kernel's body, restated chunk by chunk.

Every stage of the kernel does the same few operations for eight chunks of 32 rows. This module
names the buffers, chunks, semaphores and copies by the chunk number `j` and states each stage once at
a symbolic `j`; ProgEq.lean proves that the printed body is the eight-fold repetition of those stages.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.MemrefSat
public import Idealize.ShloMosaic.Lib.Tactic

@[expose] public section

noncomputable section

namespace Cert.RmsSum

open Cert.KernelIdeal Cert.KernelIdeal.Gen
open Idealize.ShloMosaic Idealize.ShloMosaic.TcCoe
open Idealize.SL Idealize.SL.Sem

variable {F : FTy → Type} [FloatOps F]

/-- The programs the body is made of. -/
abbrev KProg (F : FTy → Type) [FloatOps F] (α : Type) : Type 1 := Prog (TpuEff nD τ sig (Elt F) Λ₀ .tc) α

/-! ## Buffers and their chunks -/

/-- A bf16 buffer of eight slots of 32 rows. -/
abbrev Slots : Type := Memref sig .tc .vmem S8x32x1024 .bf16
/-- An f32 buffer of 256 rows. -/
abbrev Rows : Type := Memref sig .tc .vmem S256x1024 .f32

abbrev pHbm : Memref sig .tc .hbm S1x1024x1024 .f32 := Memref.whole main_arg0
abbrev rHbm : Memref sig .tc .hbm S1024x1024 .f32 := Memref.whole main_arg1
abbrev outHbm : Memref sig .tc .hbm S1024x1024 .f32 := Memref.whole main_v1
abbrev gamM : Memref sig .tc .vmem S1024 .f32 := Memref.whole cc0_stg0_0
abbrev pnM : Rows := Memref.whole cc0_scratch0
abbrev pbM : Slots := Memref.whole cc0_scratch1
abbrev xcM : Slots := Memref.whole cc0_scratch2
abbrev pM : Rows := Memref.whole cc0_scratch3
abbrev rM : Rows := Memref.whole cc0_scratch4
abbrev ovM : Rows := Memref.whole cc0_scratch5
abbrev obM : Slots := Memref.whole cc0_scratch6
abbrev ziM : Slots := Memref.whole cc0_scratch7
abbrev xyM : Slots := Memref.whole cc0_scratch8
abbrev ylM : Slots := Memref.whole cc0_scratch9
abbrev q2M : Rows := Memref.whole cc0_scratch10
abbrev q3M : Rows := Memref.whole cc0_scratch11
abbrev q4M : Rows := Memref.whole cc0_scratch12

/-- Slot `j` lies inside a buffer of eight slots. -/
theorem slot_inb : ∀ (j : Fin 8) (a : Fin 3), (![j.val, 0, 0] : Fin 3 → Nat) a + S1x32x1024.size a ≤ S8x32x1024.size a := by decide
/-- Chunk `j` of 32 rows lies inside a buffer of 256 rows. -/
theorem row_inb : ∀ (j : Fin 8) (a : Fin 2), (![32 * j.val, 0] : Fin 2 → Nat) a + S32x1024.size a ≤ S256x1024.size a := by decide

/-- The rectangle of slot `j`. -/
abbrev slotR (j : Fin 8) : Rect S8x32x1024 := Rect.unit (s := S8x32x1024) ![j.val, 0, 0] S1x32x1024.size (slot_inb j)
/-- The rectangle of rows `32 j … 32 j + 31`. -/
abbrev rowR (j : Fin 8) : Rect S256x1024 := Rect.unit (s := S256x1024) ![32 * j.val, 0] S32x1024.size (row_inb j)
/-- The whole of gamma. -/
abbrev gamR : Rect S1024 := Rect.unit (s := S1024) ![0] S1024.size inb_S1024_S1024_0

/-- Slot `j` of a buffer, as a memref of one slot. -/
abbrev slotM (M : Slots) (j : Fin 8) : Memref sig .tc .vmem S1x32x1024 .bf16 := M.slice (slotR j) (fun _ => rfl)
/-- Slot `j` with its leading axis dropped, as the copies name it. -/
abbrev flatM (M : Slots) (j : Fin 8) : Memref sig .tc .vmem S32x1024 .bf16 := (slotM M j).squeeze S32x1024 squeezes_S1x32x1024_S32x1024
/-- Chunk `j` of a buffer of 256 rows. -/
abbrev rowM (M : Rows) (j : Fin 8) : Memref sig .tc .vmem S32x1024 .f32 := M.slice (rowR j) (fun _ => rfl)

/-- Every slot is made of whole words. -/
theorem slot_words (j : Fin 8) : (slotR j).WholeWords (EltTy.packing .bf16) := by
  fin_cases j
  · exact wordsbf16_S8x32x1024_S1x32x1024_0_0_0
  · exact wordsbf16_S8x32x1024_S1x32x1024_1_0_0
  · exact wordsbf16_S8x32x1024_S1x32x1024_2_0_0
  · exact wordsbf16_S8x32x1024_S1x32x1024_3_0_0
  · exact wordsbf16_S8x32x1024_S1x32x1024_4_0_0
  · exact wordsbf16_S8x32x1024_S1x32x1024_5_0_0
  · exact wordsbf16_S8x32x1024_S1x32x1024_6_0_0
  · exact wordsbf16_S8x32x1024_S1x32x1024_7_0_0
/-- Every slot is made of whole packed rows. -/
theorem slot_packed (j : Fin 8) : (slotR j).PackedRows (EltTy.packing .bf16) := by
  fin_cases j
  · exact packedbf16_S8x32x1024_S1x32x1024_0_0_0
  · exact packedbf16_S8x32x1024_S1x32x1024_1_0_0
  · exact packedbf16_S8x32x1024_S1x32x1024_2_0_0
  · exact packedbf16_S8x32x1024_S1x32x1024_3_0_0
  · exact packedbf16_S8x32x1024_S1x32x1024_4_0_0
  · exact packedbf16_S8x32x1024_S1x32x1024_5_0_0
  · exact packedbf16_S8x32x1024_S1x32x1024_6_0_0
  · exact packedbf16_S8x32x1024_S1x32x1024_7_0_0

/-! ## The four channels between devices

Channel 0 carries a device's half of the partial sum to the other device on x; channel 1 carries its
finished chunks to the other device on x (chunks 0–3) or on y (chunks 4–7); channel 2 carries its
finished chunks to the other device on z; channel 3 forwards, along y, what arrived on channel 2. -/

/-- The buffer channel `h` sends from. -/
def srcB : Fin 4 → Slots := ![pbM, obM, obM, ziM]
/-- The buffer channel `h` lands in. -/
def landB : Fin 4 → Slots := ![xcM, xyM, ziM, ylM]

theorem srcB_whole : ∀ h, (srcB h).IsWhole
  | 0 => Memref.isWhole_whole _ | 1 => Memref.isWhole_whole _ | 2 => Memref.isWhole_whole _ | 3 => Memref.isWhole_whole _
theorem landB_whole : ∀ h, (landB h).IsWhole
  | 0 => Memref.isWhole_whole _ | 1 => Memref.isWhole_whole _ | 2 => Memref.isWhole_whole _ | 3 => Memref.isWhole_whole _

/-- The slot channel `h` sends chunk `j` from, and the slot it lands in. -/
abbrev srcM (h : Fin 4) (j : Fin 8) : Memref sig .tc .vmem S32x1024 .bf16 := flatM (srcB h) j
abbrev landM (h : Fin 4) (j : Fin 8) : Memref sig .tc .vmem S32x1024 .bf16 := flatM (landB h) j

theorem slot_exact {M : Slots} (hM : M.IsWhole) (j : Fin 8) : (flatM M j).view.WordExact :=
  (hM.wordExact_slice rfl _ (slot_words j)).reshape _ _

/-! ## Semaphores -/

/-- Where the semaphores of an array start: the four write-back arrays, then the send and receive
    semaphores of channel `h` (channel 1's are two arrays of four). -/
def wbNum (g : Fin 4) (j : Fin 8) : Fin 100 := ⟨4 + 8 * g.val + j.val, by omega⟩
def sndNum : Fin 4 → Fin 8 → Fin 100 := fun h j => match h with
  | 0 => ⟨36 + j.val, by omega⟩
  | 1 => if j.val < 4 then ⟨52 + j.val, by omega⟩ else ⟨56 + j.val, by omega⟩
  | 2 => ⟨68 + j.val, by omega⟩
  | 3 => ⟨84 + j.val, by omega⟩
def rcvNum : Fin 4 → Fin 8 → Fin 100 := fun h j => match h with
  | 0 => ⟨44 + j.val, by omega⟩
  | 1 => if j.val < 4 then ⟨56 + j.val, by omega⟩ else ⟨60 + j.val, by omega⟩
  | 2 => ⟨76 + j.val, by omega⟩
  | 3 => ⟨92 + j.val, by omega⟩
def inpNum (i : Fin 3) : Fin 100 := ⟨1 + i.val, by omega⟩

/-- The semaphores as the program names them. -/
abbrev wbS (g : Fin 4) (j : Fin 8) : DmaSem sig := wbNum g j
abbrev sndS (h : Fin 4) (j : Fin 8) : DmaSem sig := sndNum h j
abbrev rcvS (h : Fin 4) (j : Fin 8) : DmaSem sig := rcvNum h j
abbrev inpS (i : Fin 3) : DmaSem sig := inpNum i

/-- The barrier semaphore. -/
abbrev barS : Sem sig := (SemArray.scalar (sig.barrier 0 rfl) : Sems sig S_).sem

/-! ## What the body addresses: devices and rows, as printed -/

/-- The device the signals of the entry barrier go to. -/
def barDev (d : Dev nD) : Fin 3 → Dev nD
  | 0 => ⟨k0_dev1 d, k0_dev1_lt d⟩ | 1 => ⟨k0_dev2 d, k0_dev2_lt d⟩ | 2 => ⟨k0_dev3 d, k0_dev3_lt d⟩

/-- The device channel `h`'s copy of chunk `j` goes to. -/
def chDev (d : Dev nD) : Fin 4 → Fin 8 → Dev nD
  | 0, 0 => ⟨k0_dev4 d, k0_dev4_lt d⟩ | 0, 1 => ⟨k0_dev5 d, k0_dev5_lt d⟩ | 0, 2 => ⟨k0_dev6 d, k0_dev6_lt d⟩ | 0, 3 => ⟨k0_dev7 d, k0_dev7_lt d⟩
  | 0, 4 => ⟨k0_dev8 d, k0_dev8_lt d⟩ | 0, 5 => ⟨k0_dev9 d, k0_dev9_lt d⟩ | 0, 6 => ⟨k0_dev10 d, k0_dev10_lt d⟩ | 0, 7 => ⟨k0_dev11 d, k0_dev11_lt d⟩
  | 2, 0 => ⟨k0_dev12 d, k0_dev12_lt d⟩ | 1, 0 => ⟨k0_dev13 d, k0_dev13_lt d⟩ | 2, 1 => ⟨k0_dev14 d, k0_dev14_lt d⟩ | 1, 1 => ⟨k0_dev15 d, k0_dev15_lt d⟩
  | 2, 2 => ⟨k0_dev16 d, k0_dev16_lt d⟩ | 1, 2 => ⟨k0_dev17 d, k0_dev17_lt d⟩ | 2, 3 => ⟨k0_dev18 d, k0_dev18_lt d⟩ | 1, 3 => ⟨k0_dev19 d, k0_dev19_lt d⟩
  | 2, 4 => ⟨k0_dev20 d, k0_dev20_lt d⟩ | 1, 4 => ⟨k0_dev21 d, k0_dev21_lt d⟩ | 2, 5 => ⟨k0_dev22 d, k0_dev22_lt d⟩ | 1, 5 => ⟨k0_dev23 d, k0_dev23_lt d⟩
  | 2, 6 => ⟨k0_dev24 d, k0_dev24_lt d⟩ | 1, 6 => ⟨k0_dev25 d, k0_dev25_lt d⟩ | 2, 7 => ⟨k0_dev26 d, k0_dev26_lt d⟩ | 1, 7 => ⟨k0_dev27 d, k0_dev27_lt d⟩
  | 3, 0 => ⟨k0_dev28 d, k0_dev28_lt d⟩ | 3, 1 => ⟨k0_dev29 d, k0_dev29_lt d⟩ | 3, 2 => ⟨k0_dev30 d, k0_dev30_lt d⟩ | 3, 3 => ⟨k0_dev31 d, k0_dev31_lt d⟩
  | 3, 4 => ⟨k0_dev32 d, k0_dev32_lt d⟩ | 3, 5 => ⟨k0_dev33 d, k0_dev33_lt d⟩ | 3, 6 => ⟨k0_dev34 d, k0_dev34_lt d⟩ | 3, 7 => ⟨k0_dev35 d, k0_dev35_lt d⟩

/-- The quarter of the result block `g` of the write-backs goes to: its row offset at chunk `j`. -/
def outOff (d : Dev nD) : Fin 4 → Fin 8 → Fin 2 → Nat
  | 0, j => k0_off4 d (BitVec.ofNat 32 (32 * j.val)) | 1, j => k0_off5 d (BitVec.ofNat 32 (32 * j.val))
  | 2, j => k0_off6 d (BitVec.ofNat 32 (32 * j.val)) | 3, j => k0_off7 d (BitVec.ofNat 32 (32 * j.val))
theorem outOff_inb (d : Dev nD) : ∀ (g : Fin 4) (j : Fin 8) (a : Fin 2), outOff d g j a + S32x1024.size a ≤ S1024x1024.size a
  | 0, j => k0_off4_inb d j | 1, j => k0_off5_inb d j | 2, j => k0_off6_inb d j | 3, j => k0_off7_inb d j

/-- The rectangle of the result's rows that write-back `g` of chunk `j` fills. -/
abbrev outR (d : Dev nD) (g : Fin 4) (j : Fin 8) : Rect S1024x1024 := Rect.unit (s := S1024x1024) (outOff d g j) S32x1024.size (outOff_inb d g j)
/-- The result's rows that write-back `g` of chunk `j` fills. -/
abbrev outM (d : Dev nD) (g : Fin 4) (j : Fin 8) : Memref sig .tc .hbm S32x1024 .f32 := outHbm.slice (outR d g j) (fun _ => rfl)

/-- The buffer write-back `g` reads. -/
def wbB : Fin 4 → Rows := ![ovM, q2M, q3M, q4M]
theorem wbB_whole : ∀ g, (wbB g).IsWhole
  | 0 => Memref.isWhole_whole _ | 1 => Memref.isWhole_whole _ | 2 => Memref.isWhole_whole _ | 3 => Memref.isWhole_whole _

/-- The slices of the arguments the three input copies read. -/
abbrev pnR (d : Dev nD) : Rect S1x1024x1024 := Rect.unit (s := S1x1024x1024) (k0_off1 d) S1x256x1024.size (k0_off1_inb d)
abbrev pR (d : Dev nD) : Rect S1x1024x1024 := Rect.unit (s := S1x1024x1024) (k0_off2 d) S1x256x1024.size (k0_off2_inb d)
abbrev rR (d : Dev nD) : Rect S1024x1024 := Rect.unit (s := S1024x1024) (k0_off3 d) S256x1024.size (k0_off3_inb d)
abbrev pnSrc (d : Dev nD) : Memref sig .tc .hbm S256x1024 .f32 := (pHbm.slice (pnR d) (fun _ => rfl)).squeeze S256x1024 squeezes_S1x256x1024_S256x1024
abbrev pSrc (d : Dev nD) : Memref sig .tc .hbm S256x1024 .f32 := (pHbm.slice (pR d) (fun _ => rfl)).squeeze S256x1024 squeezes_S1x256x1024_S256x1024
abbrev rSrc (d : Dev nD) : Memref sig .tc .hbm S256x1024 .f32 := rHbm.slice (rR d) (fun _ => rfl)

/-! ## The operations, at a symbolic chunk -/

/-- Load slot `j`. -/
abbrev ldSlot (M : Slots) (j : Fin 8) : KProg F (Vec F S1x32x1024 .bf16) :=
  Prog.lift (.load M (slotR j).toLoadRect (View.loadsAt_vmem h_S1x32x1024))
/-- Load rows `32 j … 32 j + 31`. -/
abbrev ldRow (M : Rows) (j : Fin 8) : KProg F (Vec F S32x1024 .f32) :=
  Prog.lift (.load M (rowR j).toLoadRect (View.loadsAt_vmem h_S32x1024))
/-- Load gamma. -/
abbrev ldGam : KProg F (Vec F S1024 .f32) :=
  Prog.lift (.load gamM gamR.toLoadRect (View.loadsAt_vmem h_S1024))
/-- Store slot `j`. -/
abbrev stSlot (M : Slots) (hM : M.IsWhole) (j : Fin 8) (w : Vec F S1x32x1024 .bf16) : KProg F PUnit :=
  Prog.lift (.store M (slotR j) w Finset.univ
    (View.stores_vmem h_S1x32x1024 (hM.storeExact_slice rfl _ (slot_packed j)) (fun _ => rfl)) (.inl rfl))
/-- Store rows `32 j … 32 j + 31`. -/
abbrev stRow (M : Rows) (j : Fin 8) (w : Vec F S32x1024 .f32) : KProg F PUnit :=
  Prog.lift (.store M (rowR j) w Finset.univ (View.stores_vmem_bits_univ h_S32x1024 rfl) (.inl rfl))
/-- Send chunk `j` on channel `h`. -/
abbrev sendCh (d : Dev nD) (h : Fin 4) (j : Fin 8) : KProg F PUnit :=
  Prog.lift (.enqueueDma (srcM h j) (.remote (Dev.tc (chDev d h j)) (landM h j) (.dma (sndS h j))) (.dma (rcvS h j))
    (slot_exact (srcB_whole h) j) (slot_exact (landB_whole h) j) ⟨⟨rfl, Or.inl rfl⟩, trivial⟩)
/-- Wait for chunk `j` to land on channel `h`. -/
abbrev waitRcv (h : Fin 4) (j : Fin 8) : KProg F PUnit :=
  Prog.lift (.waitDma2 (rcvS h j) (srcM h j) (landM h j) (slot_exact (srcB_whole h) j) (slot_exact (landB_whole h) j))
/-- Wait for channel `h`'s send of chunk `j` to have been read out. -/
abbrev waitSnd (h : Fin 4) (j : Fin 8) : KProg F PUnit :=
  Prog.lift (.waitDma2 (sndS h j) (landM h j) (srcM h j) (slot_exact (landB_whole h) j) (slot_exact (srcB_whole h) j))
/-- Start write-back `g` of chunk `j`. -/
abbrev wbCopy (d : Dev nD) (g : Fin 4) (j : Fin 8) : KProg F PUnit :=
  Prog.lift (.enqueueDma (rowM (wbB g) j) (.here (outM d g j)) (.dma (wbS g j)) (View.wordExact_bits rfl) (View.wordExact_bits rfl) ⟨Or.inl rfl, trivial⟩)
/-- Wait for write-back `g` of chunk `j`. -/
abbrev wbWait (d : Dev nD) (g : Fin 4) (j : Fin 8) : KProg F PUnit :=
  Prog.lift (.waitDma2 (wbS g j) (rowM (wbB g) j) (outM d g j) (View.wordExact_bits rfl) (View.wordExact_bits rfl))

/-! ## The stages -/

/-- Send half: round chunk `j` of the partial sum to bf16 and send it to the other device on x. -/
def stepA (d : Dev nD) (j : Fin 8) : KProg F PUnit := do
  let v ← ldRow pnM j
  let _ ← ldSlot pbM j
  stSlot pbM (Memref.isWhole_whole _) j (k0_pay1 v)
  sendCh d 0 j

/-- Finish chunk `j`: add the arrived half and the residual, normalise, store it in f32 and bf16, send
    the bf16 chunk on channels 2 and 1, and write the f32 chunk to the result. -/
def stepC (d : Dev nD) (j : Fin 8) : KProg F PUnit := do
  waitRcv 0 j
  let a ← ldRow pM j
  let b ← ldSlot xcM j
  let r ← ldRow rM j
  let g ← ldGam
  let _ ← ldRow ovM j
  stRow ovM j (k0_pay11 a b r g)
  let _ ← ldSlot obM j
  stSlot obM (Memref.isWhole_whole _) j (k0_pay12 a b r g)
  sendCh d 2 j
  sendCh d 1 j
  wbCopy d 0 j

/-- Widen an arrived chunk to f32 in buffer `g` and write it to the result. -/
def stepExt (d : Dev nD) (h : Fin 4) (g : Fin 4) (j : Fin 8) : KProg F PUnit := do
  let b ← ldSlot (landB h) j
  let _ ← ldRow (wbB g) j
  stRow (wbB g) j (k0_pay40 b)
  wbCopy d g j

/-- The z chunk: forward it on channel 3, then widen it. -/
def stepD (d : Dev nD) (j : Fin 8) : KProg F PUnit := do
  waitRcv 2 j
  sendCh d 3 j
  stepExt d 2 1 j

/-- A chunk that is only received: wait for it, then widen it. -/
def stepE (d : Dev nD) (h : Fin 4) (g : Fin 4) (j : Fin 8) : KProg F PUnit := do
  waitRcv h j
  stepExt d h g j

/-- Wait for the four sends of chunk `j`. -/
def stepG (j : Fin 8) : KProg F PUnit := do
  waitSnd 0 j
  waitSnd 1 j
  waitSnd 2 j
  waitSnd 3 j

/-- Wait for write-back `g` of chunk `j`. -/
def stepH (d : Dev nD) (g : Fin 4) (j : Fin 8) : KProg F PUnit := do
  wbWait d g j

/-- A stage run over the chunks of a list, in order. -/
def eachOf (s : Fin 8 → KProg F PUnit) : List (Fin 8) → KProg F PUnit
  | [] => pure ⟨⟩
  | j :: l => do
    s j
    eachOf s l

/-- The eight chunks in order. -/
abbrev all8 : List (Fin 8) := [0, 1, 2, 3, 4, 5, 6, 7]

/-- The entry handshake: signal the three neighbours and wait for theirs. -/
def enter (d : Dev nD) : KProg F PUnit := do
  semSignalWord (barDev d 0) barS 1#32
  semSignalWord (barDev d 1) barS 1#32
  semSignalWord (barDev d 2) barS 1#32
  semWaitWord barS 3#32

/-- Start the three input copies. -/
def fetch (d : Dev nD) : KProg F PUnit := do
  Prog.lift (.enqueueDma (pnSrc d) (.here pnM) (.dma (inpS 0)) ((View.wordExact_bits rfl).reshape _ _) (Memref.isWhole_whole _).wordExact ⟨Or.inl rfl, trivial⟩)
  Prog.lift (.enqueueDma (pSrc d) (.here pM) (.dma (inpS 1)) ((View.wordExact_bits rfl).reshape _ _) (Memref.isWhole_whole _).wordExact ⟨Or.inl rfl, trivial⟩)
  Prog.lift (.enqueueDma (rSrc d) (.here rM) (.dma (inpS 2)) (View.wordExact_bits rfl) (Memref.isWhole_whole _).wordExact ⟨Or.inl rfl, trivial⟩)

/-- The body of the kernel, stage by stage. -/
def body : KProg F PUnit := do
  let d ← Prog.lift .deviceId
  enter d
  fetch d
  Prog.lift (.waitDma2 (inpS 0) (pnSrc d) pnM ((View.wordExact_bits rfl).reshape _ _) (Memref.isWhole_whole _).wordExact)
  eachOf (stepA d) all8
  Prog.lift (.waitDma2 (inpS 1) (pSrc d) pM ((View.wordExact_bits rfl).reshape _ _) (Memref.isWhole_whole _).wordExact)
  Prog.lift (.waitDma2 (inpS 2) (rSrc d) rM (View.wordExact_bits rfl) (Memref.isWhole_whole _).wordExact)
  eachOf (stepC d) all8
  eachOf (stepD d) all8
  eachOf (stepE d 1 2) all8
  eachOf (stepE d 3 3) all8
  eachOf stepG all8
  eachOf (stepH d 0) all8
  eachOf (stepH d 1) all8
  eachOf (stepH d 2) all8
  eachOf (stepH d 3) all8

end Cert.RmsSum

end
-- ==== Proof.Mesh.lean ====
/-
Who talks to whom on the mesh, and which rows each device finishes.

The mesh is x=2, y=4, z=4, device `16 x + 4 y + z`. Each device has one neighbour on each axis (the other
x, y with its low bit flipped, z with its low bit flipped), and it finishes one quarter of the rows of the
result, chosen by the parities of x+y and of z.
-/
module

public import proofs.«01_k».proof.Proof.Prog

@[expose] public section

noncomputable section

namespace Cert.RmsSum

open Cert.KernelIdeal Cert.KernelIdeal.Gen
open Idealize.ShloMosaic

/-- The neighbour of a device on axis 0 (x), 1 (y) or 2 (z). -/
def nbr (a : Fin 3) (d : Dev nD) : Dev nD := match a with
  | 0 => ⟨(d.val + 16) % 32, Nat.mod_lt _ (by decide)⟩
  | 1 => ⟨(if d.val / 4 % 2 = 0 then d.val + 4 else d.val - 4) % 32, Nat.mod_lt _ (by decide)⟩
  | 2 => ⟨(if d.val % 2 = 0 then d.val + 1 else d.val - 1) % 32, Nat.mod_lt _ (by decide)⟩

/-- The axis channel `h` sends chunk `j` along. -/
def axis (h : Fin 4) (j : Fin 8) : Fin 3 := match h with
  | 0 => 0
  | 1 => if j.val < 4 then 0 else 1
  | 2 => 2
  | 3 => 1

/-- The device channel `h` exchanges chunk `j` with. -/
def peer (h : Fin 4) (j : Fin 8) (d : Dev nD) : Dev nD := nbr (axis h j) d

/-- Being a neighbour is mutual. -/
theorem nbr_nbr : ∀ (a : Fin 3) (d : Dev nD), nbr a (nbr a d) = d := by decide +kernel

theorem peer_peer (h : Fin 4) (j : Fin 8) (d : Dev nD) : peer h j (peer h j d) = d := nbr_nbr _ d

/-- The exchange along an axis, as a permutation of the devices. -/
def nbrE (a : Fin 3) : Dev nD ≃ Dev nD := ⟨nbr a, nbr a, nbr_nbr a, nbr_nbr a⟩

/-- The signals of the entry barrier go to the three neighbours. -/
theorem barDev_eq : ∀ (d : Dev nD) (a : Fin 3), barDev d a = nbr a d := by decide +kernel

/-- The copies of channel `h` go to its peer. -/
theorem chDev_eq : ∀ (d : Dev nD) (h : Fin 4) (j : Fin 8), chDev d h j = peer h j d := by decide +kernel

/-- The first row of the quarter a device finishes. -/
def qRow (d : Dev nD) : Nat := (d.val / 16 + d.val / 4) % 2 * 512 + d.val % 2 * 256

/-- The device whose finished chunk write-back `g` of chunk `j` carries. -/
def maker (g : Fin 4) (j : Fin 8) (d : Dev nD) : Dev nD := match g with
  | 0 => d
  | 1 => nbr 2 d
  | 2 => peer 1 j d
  | 3 => nbr 2 (nbr 1 d)

/-- The three input copies read: the quarter the other device on x finishes, and, twice, the quarter this
    device finishes. -/
theorem off1_eq : ∀ (d : Dev nD), k0_off1 d = ![0, qRow (nbr 0 d), 0] := by decide +kernel
theorem off2_eq : ∀ (d : Dev nD), k0_off2 d = ![0, qRow d, 0] := by decide +kernel
theorem off3_eq : ∀ (d : Dev nD), k0_off3 d = ![qRow d, 0] := by decide +kernel

/-- Write-back `g` of chunk `j` lands on the rows its maker finishes. -/
theorem outOff_eq : ∀ (d : Dev nD) (g : Fin 4) (j : Fin 8), outOff d g j = ![qRow (maker g j d) + 32 * j.val, 0] := by decide +kernel

/-- The block of 32 rows of the result that write-back `g` of chunk `j` fills, by number. -/
def outIx (d : Dev nD) (k : Fin 4 × Fin 8) : Fin 32 := ⟨(qRow (maker k.1 k.2 d) / 32 + k.2.val) % 32, Nat.mod_lt _ (by decide)⟩

theorem outIx_val : ∀ (d : Dev nD) (k : Fin 4 × Fin 8), 32 * (outIx d k).val = qRow (maker k.1 k.2 d) + 32 * k.2.val := by decide +kernel

/-- The write-backs of one device fill every block exactly once. -/
theorem outIx_inj : ∀ (d : Dev nD), Function.Injective (outIx d) := by
  unfold Function.Injective
  decide +kernel

theorem outIx_bij (d : Dev nD) : Function.Bijective (outIx d) :=
  (Fintype.bijective_iff_injective_and_card _).mpr ⟨outIx_inj d, by simp⟩

end Cert.RmsSum

end
-- ==== Proof.Pieces.lean ====
/-
Ownership of buffers chunk by chunk: splitting a buffer into its chunks and joining them again, and the
rules of loads, stores and views for one chunk.
-/
module

public import proofs.«01_k».proof.Proof.Mesh
public import Idealize.ShloMosaic.Lib.Pipeline.BigSepL

@[expose] public section

noncomputable section

namespace Cert.RmsSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds of this kernel's own semaphores: at most three duties in a round (the barrier's three signals). -/
abbrev UB : Type := URounds (GSem nD τ sig) (Fin 3)
/-- With the pipeline's own. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## A buffer is its chunks -/

section Join

variable (c : Thread nD τ) {sp : Space} {sh : Shape} {e : EltTy} (M : Memref sig c.2.kind sp sh e) (q : PosShare TreeShare)
  {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)

include hd hcov in
/-- Disjoint pieces that cover a buffer, each owned at its own contents, are the buffer at contents that
    agree with every piece. -/
theorem pieces_join [∀ e, Nonempty (Elt F e)] (w : (t : T) → (r t).shape.Idx → Elt F e) :
    (BI.bigSep Finset.univ fun t => owns c (M.slice (r t) (hr t)) q (w t))
      ⊢ (iprop(∃ g, ⌜∀ t j, M.view.read (Elt F) g ((r t).emb j) = w t j⌝ ∗ (M.view.loc c ↦[M.view.set]{q} g)) : sProp 𝕄) := by
  classical
  let place : (Σ t, (r t).shape.Idx) → sh.Idx := fun p => (r p.1).emb p.2
  have hmem (t : T) (i : (r t).shape.Idx) : (r t).emb i ∈ (r t).set := by
    rw [← Rect.map_emb_univ]; exact Finset.mem_map_of_mem _ (Finset.mem_univ _)
  have hinj : Function.Injective place := by
    rintro ⟨t, i⟩ ⟨t', i'⟩ h
    by_cases ht : t = t'
    · subst ht
      exact congrArg (Sigma.mk t) ((r t).emb.injective h)
    · have h' : (r t).emb i = (r t').emb i' := h
      exact absurd (hmem t' i') (Finset.disjoint_left.mp (hd t t' ht) (by rw [← h']; exact hmem t i))
  obtain ⟨X, hX⟩ : ∃ X : sh.Idx → Elt F e, ∀ t j, X ((r t).emb j) = w t j :=
    ⟨Function.extend place (fun p => w p.1 p.2) (fun _ => Classical.arbitrary _),
      fun t j => hinj.extend_apply (fun p => w p.1 p.2) _ ⟨t, j⟩⟩
  rw [BI.bigSep_congr (Ψ := fun t => owns c (M.slice (r t) (hr t)) q (fun j => X ((r t).emb j)))
    (fun t _ => by rw [show (fun j => X ((r t).emb j)) = w t from funext (hX t)])]
  refine (owns_rects_join c M q r hr hd X Finset.univ).trans ?_
  have hset : ((Finset.univ : Finset T).biUnion fun t => (M.view.slice (r t)).set) = M.view.set := by
    ext i; constructor
    · intro hi
      obtain ⟨t, -, hi⟩ := Finset.mem_biUnion.mp hi
      exact View.set_slice_subset _ _ hi
    · intro hi
      rw [View.set, Finset.mem_map] at hi
      obtain ⟨x, -, rfl⟩ := hi
      obtain ⟨t, -, hx⟩ := Finset.mem_biUnion.mp (hcov.symm ▸ Finset.mem_univ x)
      exact Finset.mem_biUnion.mpr ⟨t, Finset.mem_univ _, by rw [View.set_slice]; exact Finset.mem_map_of_mem _ hx⟩
  rw [hset]
  iintro ⟨%g, %hg, H⟩
  iexists g
  isplitr
  · ipureintro
    intro t j
    rw [hg t (Finset.mem_univ _) j, hX]
  iexact H

end Join

/-- The slots of a buffer are disjoint and cover it, -/
theorem slots_disjoint (j j' : Fin 8) (h : j ≠ j') : Disjoint (slotR j).set (slotR j').set :=
  Ring.lead_disjoint (s := S8x32x1024) 0 1 (fun j : Fin 8 => ![j.val, 0, 0]) S1x32x1024.size slot_inb
    (fun j => by simp) (by decide) j j' h
theorem slots_cover : Finset.univ.biUnion (fun j => (slotR j).set) = Finset.univ :=
  Ring.lead_cover (s := S8x32x1024) 0 1 (fun j : Fin 8 => ![j.val, 0, 0]) S1x32x1024.size slot_inb
    (fun j => by simp) (by decide) (by decide) (by decide) (by decide)
/-- and so are the chunks of 32 rows. -/
theorem rows_disjoint (j j' : Fin 8) (h : j ≠ j') : Disjoint (rowR j).set (rowR j').set :=
  Ring.lead_disjoint (s := S256x1024) 0 32 (fun j : Fin 8 => ![32 * j.val, 0]) S32x1024.size row_inb
    (fun j => by simp) (by decide) j j' h
theorem rows_cover : Finset.univ.biUnion (fun j => (rowR j).set) = Finset.univ :=
  Ring.lead_cover (s := S256x1024) 0 32 (fun j : Fin 8 => ![32 * j.val, 0]) S32x1024.size row_inb
    (fun j => by simp) (by decide) (by decide) (by decide) (by decide)

/-- The block of 32 rows of the result numbered `b` lies inside it. -/
theorem blk_inb : ∀ (b : Fin 32) (a : Fin 2), (![32 * b.val, 0] : Fin 2 → Nat) a + S32x1024.size a ≤ S1024x1024.size a := by decide
/-- That block. -/
abbrev blkR (b : Fin 32) : Rect S1024x1024 := Rect.unit (s := S1024x1024) ![32 * b.val, 0] S32x1024.size (blk_inb b)

/-- A write-back fills the block its number names. -/
theorem outR_eq (d : Dev nD) (k : Fin 4 × Fin 8) : outR d k.1 k.2 = blkR (outIx d k) := by
  have h : outOff d k.1 k.2 = ![32 * (outIx d k).val, 0] := by rw [outOff_eq, outIx_val]
  unfold outR blkR
  generalize_proofs p₁ p₂
  revert p₁ p₂
  rw [h]
  intro _ _; rfl

theorem outs_disjoint (d : Dev nD) (k k' : Fin 4 × Fin 8) (h : k ≠ k') : Disjoint (outR d k.1 k.2).set (outR d k'.1 k'.2).set := by
  rw [outR_eq, outR_eq]
  exact Ring.lead_disjoint (s := S1024x1024) 0 32 (fun b : Fin 32 => ![32 * b.val, 0]) S32x1024.size blk_inb
    (fun j => by simp) (by decide) _ _ (fun e => h (outIx_inj d e))
theorem outs_cover (d : Dev nD) : Finset.univ.biUnion (fun k : Fin 4 × Fin 8 => (outR d k.1 k.2).set) = Finset.univ := by
  have hc := Ring.lead_cover (s := S1024x1024) 0 32 (fun b : Fin 32 => ![32 * b.val, 0]) S32x1024.size blk_inb
    (fun j => by simp) (by decide) (by decide) (by decide) (by decide)
  ext i
  have hi : i ∈ (Finset.univ : Finset _).biUnion (fun b => (blkR b).set) := by rw [hc]; exact Finset.mem_univ _
  obtain ⟨b, -, hb⟩ := Finset.mem_biUnion.mp hi
  obtain ⟨k, rfl⟩ := (outIx_bij d).2 b
  exact ⟨fun _ => Finset.mem_univ _, fun _ => Finset.mem_biUnion.mpr ⟨k, Finset.mem_univ _, by rw [outR_eq]; exact hb⟩⟩

/-! ## One chunk at a time -/

section Step

variable (c : Dev nD) {defs : Defs nD τ sig (Elt F) Λ₀} {𝒱 : Variants} {bd : Option 𝒱.V} {E : Set ℕ}

/-- Loading a chunk that is owned. -/
theorem wp_ld {α : Type} {Q : α → sProp 𝕄} {sh : Shape} {e : EltTy} (M : Memref sig .tc .vmem sh e) (r : Rect sh) (hr : ∀ a, r.stride a = 1) (q : PosShare TreeShare)
    (w : r.shape.Idx → Elt F e) (hl : M.view.LoadsAt r.toLoadRect) (k : (r.shape.Idx → Elt F e) → Prog (TpuEff nD τ sig (Elt F) Λ₀ .tc) α) :
    owns (c : Thread nD τ) (M.slice r hr) q w
      ⊢ (iprop((owns (c : Thread nD τ) (M.slice r hr) q w -∗ wp frame (wpE defs 𝒱 (c : Thread nD τ) bd) E (k w) Q)
          -∗ wp frame (wpE defs 𝒱 (c : Thread nD τ) bd) E (.op (.load M r.toLoadRect hl) k) Q) : sProp 𝕄) := by
  unfold owns
  iintro ⟨%f, %hf, H⟩
  iintro K
  iapply (wp_load_rect 𝒱 (c : Thread nD τ) bd E (m := M) (r := r) (hl := hl) (k := k) (f := f) (q := q) Finset.Subset.rfl) $$ H
  iintro H
  have hf' : (M.access r).read (Elt F) f = w := hf
  rw [hf']
  iapply K
  iexists f
  isplitr; · ipureintro; exact hf
  iexact H

/-- Loading a chunk of a buffer that is owned whole. -/
theorem wp_ld_of {α : Type} {Q : α → sProp 𝕄} {sh : Shape} {e : EltTy} (M : Memref sig .tc .vmem sh e) (r : Rect sh) (q : PosShare TreeShare)
    (X : sh.Idx → Elt F e) (hl : M.view.LoadsAt r.toLoadRect) (k : (r.shape.Idx → Elt F e) → Prog (TpuEff nD τ sig (Elt F) Λ₀ .tc) α) :
    owns (c : Thread nD τ) M q X
      ⊢ (iprop((owns (c : Thread nD τ) M q X -∗ wp frame (wpE defs 𝒱 (c : Thread nD τ) bd) E (k (fun i => X (r.emb i))) Q)
          -∗ wp frame (wpE defs 𝒱 (c : Thread nD τ) bd) E (.op (.load M r.toLoadRect hl) k) Q) : sProp 𝕄) := by
  unfold owns
  iintro ⟨%f, %hf, H⟩
  iintro K
  iapply (wp_load_rect 𝒱 (c : Thread nD τ) bd E (m := M) (r := r) (hl := hl) (k := k) (f := f) (q := q) (View.set_slice_subset _ _)) $$ H
  iintro H
  have hf' : (M.access r).read (Elt F) f = fun i => X (r.emb i) := by rw [← hf]; rfl
  rw [hf']
  iapply K
  iexists f
  isplitr; · ipureintro; exact hf
  iexact H

/-- Storing over a chunk that is owned. -/
theorem wp_st {α : Type} {Q : α → sProp 𝕄} {sh : Shape} {e : EltTy} (M : Memref sig .tc .vmem sh e) (r : Rect sh) (hr : ∀ a, r.stride a = 1)
    (w₀ w : r.shape.Idx → Elt F e) (hx : (M.access r).Stores Finset.univ) (hm : Finset.univ = Finset.univ ∨ ∀ a, r.stride a = 1)
    (k : PUnit → Prog (TpuEff nD τ sig (Elt F) Λ₀ .tc) α) :
    owns (c : Thread nD τ) (M.slice r hr) fullShare w₀
      ⊢ (iprop((owns (c : Thread nD τ) (M.slice r hr) fullShare w -∗ wp frame (wpE defs 𝒱 (c : Thread nD τ) bd) E (k ⟨⟩) Q)
          -∗ wp frame (wpE defs 𝒱 (c : Thread nD τ) bd) E (.op (.store M r w Finset.univ hx hm) k) Q) : sProp 𝕄) := by
  unfold owns
  iintro ⟨%f, %hf, H⟩
  iintro K
  iapply (wp_store 𝒱 (c : Thread nD τ) bd E (m := M) (r := r) (w := w) (Mk := Finset.univ) (hx := hx) (hm := hm) (k := k) (f := f) (S := (M.access r).set) Finset.Subset.rfl) $$ H
  iintro H
  iapply K
  iexists (M.access r).write (Elt F) f w Finset.univ
  isplitr; · ipureintro; exact View.read_write_univ f w
  iexact H

end Step

/-- The contents of a slot with its leading axis dropped. -/
abbrev flat {e : EltTy} (w : S1x32x1024.Idx → Elt F e) : S32x1024.Idx → Elt F e :=
  fun i => w (Shape.reshapeEquiv squeezes_S1x32x1024_S32x1024.numel_eq i)

/-- A slot under the name the copies give it. -/
theorem owns_flat (c : Dev nD) (M : Slots) (j : Fin 8) (q : PosShare TreeShare) (w : S1x32x1024.Idx → Elt F .bf16) :
    (owns (c : Thread nD τ) (flatM M j) q (flat w) : sProp 𝕄) = owns (c : Thread nD τ) (slotM M j) q w := by
  have hset : (flatM M j).view.set = (slotM M j).view.set := View.set_reshape _ _
  have hread (f : (slotM M j).view.ty.Contents (Elt F)) :
      ((flatM M j).view.read (Elt F) f = flat w) ↔ ((slotM M j).view.read (Elt F) f = w) := by
    constructor
    · intro h
      funext x
      have := congrFun h ((Shape.reshapeEquiv squeezes_S1x32x1024_S32x1024.numel_eq).symm x)
      simp only [flat, Equiv.apply_symm_apply] at this
      rw [← this]
      show _ = (slotM M j).view.read (Elt F) f (Shape.reshapeEquiv squeezes_S1x32x1024_S32x1024.numel_eq ((Shape.reshapeEquiv squeezes_S1x32x1024_S32x1024.numel_eq).symm x))
      rw [Equiv.apply_symm_apply]
    · intro h; rw [← h]; rfl
  have h₁ : (owns (c : Thread nD τ) (flatM M j) q (flat w) : sProp 𝕄) ⊢ owns (c : Thread nD τ) (slotM M j) q w := by
    unfold owns
    iintro ⟨%f, %hf, H⟩
    iexists f
    isplitr; · ipureintro; exact (hread f).mp hf
    rw [← hset]
    iexact H
  have h₂ : (owns (c : Thread nD τ) (slotM M j) q w : sProp 𝕄) ⊢ owns (c : Thread nD τ) (flatM M j) q (flat w) := by
    unfold owns
    iintro ⟨%f, %hf, H⟩
    iexists f
    isplitr; · ipureintro; exact (hread f).mpr hf
    rw [hset]
    iexact H
  exact BI.equiv_iff.mp ⟨h₁, h₂⟩

end Cert.RmsSum

end
-- ==== Proof.Schedule.lean ====
/-
What every buffer holds, and who hands what to whom.

First the contents of the chunks each device computes and receives, as functions of the memory at launch.
Then the schedule of the semaphores: each is waited for once, and what its completion hands the waiter is
a set of chunks with their contents. Last the order of the waits: a device waits only on semaphores below
everything it still owes.
-/
module

public import proofs.«01_k».proof.Proof.Pieces

@[expose] public section

noncomputable section

namespace Cert.RmsSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Contents -/

/-- The three arguments on device `c` at launch. -/
abbrev arg0 (c : Dev nD) : (main_arg0 : Ref sig .tc).ty.Contents (Elt F) := m ((c : Thread nD τ).loc main_arg0)
abbrev arg1 (c : Dev nD) : (main_arg1 : Ref sig .tc).ty.Contents (Elt F) := m ((c : Thread nD τ).loc main_arg1)
abbrev arg2 (c : Dev nD) : (main_arg2 : Ref sig .tc).ty.Contents (Elt F) := m ((c : Thread nD τ).loc main_arg2)

/-- The rows of its partial sum a device sends away, those it keeps, and the residual's rows beside them. -/
def pnW (c : Dev nD) : S256x1024.Idx → Elt F .f32 := (pnSrc c).view.read (Elt F) (arg0 m c)
def pW (c : Dev nD) : S256x1024.Idx → Elt F .f32 := (pSrc c).view.read (Elt F) (arg0 m c)
def rW (c : Dev nD) : S256x1024.Idx → Elt F .f32 := (rSrc c).view.read (Elt F) (arg1 m c)
/-- Gamma, as staged. -/
def gamW (c : Dev nD) : (cc0_stg0_0 : Ref sig .tc).ty.Contents (Elt F) := (win0_0.blk (0 : Fin 1)).view.read (Elt F) (arg2 m c)

/-- Rows `32 j … 32 j + 31` of 256 rows. -/
abbrev chunk (X : S256x1024.Idx → Elt F .f32) (j : Fin 8) : S32x1024.Idx → Elt F .f32 := fun i => X ((rowR j).emb i)
/-- Gamma as the body loads it. -/
abbrev gamV (c : Dev nD) : S1024.Idx → Elt F .f32 := fun i => gamW m c (gamR.emb i)

/-- The chunk a device sends to the other device on x. -/
def pbW (c : Dev nD) (j : Fin 8) : S1x32x1024.Idx → Elt F .bf16 := k0_pay1 (chunk (pnW m c) j)
/-- The chunk a device finishes, in f32, -/
def resW (c : Dev nD) (j : Fin 8) : S32x1024.Idx → Elt F .f32 :=
  k0_pay11 (chunk (pW m c) j) (pbW m (nbr 0 c) j) (chunk (rW m c) j) (gamV m c)
/-- and rounded to bf16. -/
def obW (c : Dev nD) (j : Fin 8) : S1x32x1024.Idx → Elt F .bf16 :=
  k0_pay12 (chunk (pW m c) j) (pbW m (nbr 0 c) j) (chunk (rW m c) j) (gamV m c)

/-- What device `c` sends as chunk `j` on channel `h`. -/
def sentW (h : Fin 4) (c : Dev nD) (j : Fin 8) : S1x32x1024.Idx → Elt F .bf16 := match h with
  | 0 => pbW m c j
  | 1 => obW m c j
  | 2 => obW m c j
  | 3 => obW m (nbr 2 c) j
/-- What device `c` receives as chunk `j` on channel `h`. -/
def gotW (h : Fin 4) (c : Dev nD) (j : Fin 8) : S1x32x1024.Idx → Elt F .bf16 := sentW m h (peer h j c) j

/-- What write-back `g` of chunk `j` writes: the device's own chunk, or a received one widened. -/
def outW (g : Fin 4) (c : Dev nD) (j : Fin 8) : S32x1024.Idx → Elt F .f32 := match g with
  | 0 => resW m c j
  | 1 => k0_pay40 (gotW m 2 c j)
  | 2 => k0_pay40 (gotW m 1 c j)
  | 3 => k0_pay40 (gotW m 3 c j)

/-! ## The semaphores -/

/-- The body's own semaphores: the three input copies' (`inl`); the write-backs' (class 0), the channels'
    send (class 1) and receive (class 2) semaphores, by write-back or channel and chunk. -/
abbrev OKey : Type := Fin 3 ⊕ (Fin 3 × (Fin 4 × Fin 8))
/-- With the barrier (`inl`). -/
abbrev Key : Type := Unit ⊕ OKey

abbrev kBar : Key := .inl ()
abbrev kInp (i : Fin 3) : Key := .inr (.inl i)
abbrev kWb (g : Fin 4) (j : Fin 8) : Key := .inr (.inr (0, g, j))
abbrev kSnd (h : Fin 4) (j : Fin 8) : Key := .inr (.inr (1, h, j))
abbrev kRcv (h : Fin 4) (j : Fin 8) : Key := .inr (.inr (2, h, j))

/-- A body's own semaphore's number. -/
def num : OKey → Fin 100
  | .inl i => inpNum i
  | .inr (0, g, j) => wbNum g j
  | .inr (1, h, j) => sndNum h j
  | .inr (2, h, j) => rcvNum h j

theorem num_inj : Function.Injective num := by
  unfold Function.Injective
  decide +kernel

/-- The body's own semaphores, and with the barrier. -/
def osem (k : OKey) : SemLoc sig := .dma (num k)
def csem : Key → SemLoc sig
  | .inl _ => .reg barS
  | .inr k => osem k
theorem csem_inj : Function.Injective csem := by
  rintro (_ | k) (_ | k') h
  · rfl
  · exact absurd h (fun h => by cases h)
  · exact absurd h (fun h => by cases h)
  · exact congrArg _ (num_inj (SemLoc.dma.inj h))

/-- The semaphore of a device. -/
def kcell (ck : Dev nD × Key) : GSem nD τ sig := ((ck.1 : Thread nD τ), csem ck.2)
theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- Which device's which semaphore a cell is, if any. -/
def dec (g : GSem nD τ sig) : Option (Dev nD × Key) :=
  open Classical in if h : ∃ ck, kcell ck = g then some h.choose else none
theorem dec_kcell (ck : Dev nD × Key) : dec (kcell ck) = some ck := by
  have h : ∃ ck', kcell ck' = kcell ck := ⟨ck, rfl⟩
  unfold dec
  rw [dif_pos h]
  exact congrArg some (kcell_inj h.choose_spec)

/-! ## The schedule -/

/-- The credit of a transfer of one slot, one chunk of rows, and one input. -/
abbrev NS : ℕ := (flatM xcM 0).view.dmaCredit
abbrev NR : ℕ := (outM 0 0 0).view.dmaCredit
abbrev NI : ℕ := pnM.view.dmaCredit

/-- The share of its source a channel holds while its send is in flight. -/
def shareOf : Fin 4 → PosShare TreeShare
  | 0 => fullShare
  | 1 => fullShare.left
  | 2 => fullShare.right
  | 3 => fullShare.left

/-- The landing slots on the neighbour along axis `a` that are filled from this device. -/
def barPay (c : Dev nD) (a : Fin 3) : sProp 𝕄 :=
  bigSep Finset.univ fun p : Fin 4 × Fin 8 =>
    if axis p.1 p.2 = a then iprop(∃ w, owns (nbr a c : Thread nD τ) (slotM (landB p.1) p.2) fullShare w) else iprop(emp)

/-- An input copy gives its destination at its contents and the source back. -/
def inpPay (c : Dev nD) : Fin 3 → sProp 𝕄
  | 0 => iprop(owns (c : Thread nD τ) pnM fullShare (pnW m c) ∗ ((c : Thread nD τ).loc main_arg0 ↦[(pnSrc c).view.set]{fullShare.left} arg0 m c))
  | 1 => iprop(owns (c : Thread nD τ) pM fullShare (pW m c) ∗ ((c : Thread nD τ).loc main_arg0 ↦[(pSrc c).view.set]{fullShare.right} arg0 m c))
  | 2 => iprop(owns (c : Thread nD τ) rM fullShare (rW m c) ∗ ((c : Thread nD τ).loc main_arg1 ↦[(rSrc c).view.set]{fullShare} arg1 m c))

/-- A write-back gives the rows of the result at their contents and its source back. -/
def wbPay (c : Dev nD) (g : Fin 4) (j : Fin 8) : sProp 𝕄 :=
  iprop(owns (c : Thread nD τ) (outM c g j) fullShare (outW m g c j) ∗ owns (c : Thread nD τ) (rowM (wbB g) j) fullShare (outW m g c j))

/-- A send gives its source back. -/
def sndPay (c : Dev nD) (h : Fin 4) (j : Fin 8) : sProp 𝕄 := owns (c : Thread nD τ) (slotM (srcB h) j) (shareOf h) (sentW m h c j)
/-- A landing gives the slot with what the peer sent. -/
def rcvPay (c : Dev nD) (h : Fin 4) (j : Fin 8) : sProp 𝕄 := owns (c : Thread nD τ) (slotM (landB h) j) fullShare (gotW m h c j)

/-- What a semaphore's duty hands over. -/
def payK (c : Dev nD) : Key → Fin 3 → sProp 𝕄
  | .inl _, d => barPay c d
  | .inr (.inl i), _ => inpPay m c i
  | .inr (.inr (0, g, j)), _ => wbPay m c g j
  | .inr (.inr (1, h, j)), _ => sndPay m c h j
  | .inr (.inr (2, h, j)), _ => rcvPay m c h j

/-- The duties of a semaphore: the barrier has one from each neighbour, the others one. -/
def dutK : Key → Finset (Fin 3)
  | .inl _ => Finset.univ
  | .inr _ => {0}
/-- What each duty counts. -/
def amtK : Key → ℕ
  | .inl _ => 1
  | .inr (.inl _) => NI
  | .inr (.inr (0, _, _)) => NR
  | .inr (.inr (1, _, _)) => NS
  | .inr (.inr (2, _, _)) => NS

theorem NS_pos : 0 < NS := View.dmaCredit_pos _ (by decide)
theorem NR_pos : 0 < NR := View.dmaCredit_pos _ (by decide)
theorem NI_pos : 0 < NI := View.dmaCredit_pos _ (by decide)
theorem amtK_pos : ∀ k, 0 < amtK k
  | .inl _ => Nat.one_pos
  | .inr (.inl _) => NI_pos
  | .inr (.inr (0, _, _)) => NR_pos
  | .inr (.inr (1, _, _)) => NS_pos
  | .inr (.inr (2, _, _)) => NS_pos

/-- One round: every semaphore is counted up once. -/
def sched : Rounds.Schedule (GSem nD τ sig) (Fin 3) 𝕄 where
  duties g r := match dec g with
    | some ck => if r = 0 then dutK ck.2 else ∅
    | none => ∅
  unitless _ := False
  amount g _ _ := match dec g with
    | some ck => amtK ck.2
    | none => 1
  payload g _ d := match dec g with
    | some ck => payK m ck.1 ck.2 d
    | none => iprop(emp)
  amount_pos g _ _ _ := by
    rcases dec g with _ | ck
    · exact Nat.one_pos
    · exact amtK_pos _

instance payK_storable (c : Dev nD) (k : Key) (d : Fin 3) : BI.Storable (upEmb : UEmb _ 𝕄) (payK (F := F) m c k d) := by
  rcases k with _ | i | ⟨a, h, j⟩
  · show BI.Storable _ (barPay c d)
    unfold barPay
    have (p : Fin 4 × Fin 8) : BI.Storable (upEmb : UEmb _ 𝕄) (if axis p.1 p.2 = d then iprop(∃ w, owns (nbr d c : Thread nD τ) (slotM (landB p.1) p.2) fullShare w) else iprop(emp)) := by
      split <;> infer_instance
    infer_instance
  · fin_cases i <;> (dsimp only [payK, inpPay]; infer_instance)
  · fin_cases a <;> (dsimp only [payK, wbPay, sndPay, rcvPay]; infer_instance)

instance sched_storable (g : GSem nD τ sig) (r : ℕ) (d : Fin 3) : BI.Storable (upEmb : UEmb _ 𝕄) ((sched (F := F) m).payload g r d) := by
  show BI.Storable upEmb (match dec g with
    | some ck => payK m ck.1 ck.2 d
    | none => iprop(emp))
  split <;> infer_instance

section Facts
variable (c : Dev nD) (k : Key)

theorem duties_k : (sched (F := F) m).duties (kcell (c, k)) 0 = dutK k := by dsimp only [sched]; rw [dec_kcell]; rfl
theorem duties_later (g : GSem nD τ sig) : ∀ r, 1 ≤ r → (sched (F := F) m).duties g r = ∅ := fun r hr => by
  dsimp only [sched]
  split
  · exact if_neg (by omega)
  · rfl
theorem amount_k (d : Fin 3) : (sched (F := F) m).amount (kcell (c, k)) 0 d = amtK k := by dsimp only [sched]; rw [dec_kcell]
theorem payload_k (d : Fin 3) : (sched (F := F) m).payload (kcell (c, k)) 0 d = payK m c k d := by dsimp only [sched]; rw [dec_kcell]

theorem expect_bar : (sched (F := F) m).expect (kcell (c, kBar)) 0 = 3 := by
  unfold Schedule.expect Schedule.amountOf
  rw [duties_k, Finset.sum_congr rfl fun d _ => amount_k m c kBar d]
  rfl
theorem expect_o (k : OKey) : (sched (F := F) m).expect (kcell (c, .inr k)) 0 = amtK (.inr k) := by
  unfold Schedule.expect Schedule.amountOf
  rw [duties_k]
  show Finset.sum {0} _ = _
  rw [Finset.sum_singleton, amount_k]
theorem rest_bar : bigSep ((sched (F := F) m).duties (kcell (c, kBar)) 0 \ ∅) (fun d => (sched (F := F) m).payload (kcell (c, kBar)) 0 d)
    = bigSep Finset.univ (fun a => barPay (F := F) c a) := by
  rw [Finset.sdiff_empty, duties_k]
  exact bigSep_congr fun d _ => payload_k m c kBar d
theorem rest_o (k : OKey) : bigSep ((sched (F := F) m).duties (kcell (c, .inr k)) 0 \ ∅) (fun d => (sched (F := F) m).payload (kcell (c, .inr k)) 0 d)
    = payK m c (.inr k) 0 := by
  rw [Finset.sdiff_empty, duties_k]
  show bigSep {0} _ = _
  rw [bigSep_singleton, payload_k]

end Facts

/-! ## What is owed, and the order of the waits -/

/-- What device `c` owes for its sends of the chunks `l` on channel `h`: the landings at its peers. -/
def due (c : Dev nD) (h : Fin 4) : List (Fin 8) → CellTallies nD τ sig Unit
  | [] => 0
  | j :: l => due c h l + tallyAt (kcell (peer h j c, kRcv h j)) () NS
/-- All landings it owes. -/
def dueAll (c : Dev nD) : CellTallies nD τ sig Unit := due c 3 all8 + due c 1 all8 + due c 2 all8 + due c 0 all8
/-- With the three signals of the barrier: what it owes at launch. -/
def owed₀ (c : Dev nD) : CellTallies nD τ sig Unit :=
  dueAll c + tallyAt (kcell (nbr 2 c, kBar)) () 1 + tallyAt (kcell (nbr 1 c, kBar)) () 1 + tallyAt (kcell (nbr 0 c, kBar)) () 1

/-- The order of the waits: the barrier, then the landings of channel 0, of 1 and 2, of 3. Everything
    else is signalled by the device itself. -/
def levK : Key → ℕ
  | .inl _ => 1
  | .inr (.inl _) => 0
  | .inr (.inr (0, _, _)) => 0
  | .inr (.inr (1, _, _)) => 0
  | .inr (.inr (2, h, _)) => match h with
    | 0 => 2
    | 1 => 3
    | 2 => 3
    | 3 => 4

def L (g : GSem nD τ sig) : Finset Unit := if g.1.2 = .tc then {()} else ∅
def lv (g : GSem nD τ sig) (_ : Unit) : ℕ := match dec g with
  | some ck => levK ck.2
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_k (ck : Dev nD × Key) (u : Unit) : lv (kcell ck) u = levK ck.2 := by unfold lv; rw [dec_kcell]

/-- Everything owed is a semaphore of the schedule above level `n`. -/
def Above (n : ℕ) (O : CellTallies nD τ sig Unit) : Prop := ∀ g u, 0 < O g u → ∃ ck, g = kcell ck ∧ n < levK ck.2

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} (ck : Dev nD × Key) (N : ℕ) (h : n < levK ck.2) : Above n (tallyAt (kcell ck) () N) := fun g u hg => by
  rw [tallyAt_apply] at hg
  by_cases he : g = kcell ck ∧ u = ()
  · exact ⟨ck, he.1, h⟩
  · rw [if_neg he] at hg; exact absurd hg (Nat.lt_irrefl 0)
theorem above_due {n : ℕ} (c : Dev nD) (h : Fin 4) (hn : ∀ j, n < levK (kRcv h j)) : ∀ l, Above n (due c h l)
  | [] => above_zero n
  | j :: l => above_add (above_due c h hn l) (above_tally _ _ (hn j))

/-- A device may wait on a semaphore below everything it owes. -/
theorem mayWait (c : Dev nD) (sm : SemLoc sig) (O : CellTallies nD τ sig Unit) (n : ℕ) (hsm : lv ((c : Thread nD τ), sm) () = n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨ck, rfl, -⟩ := hO g u hg; exact Finset.mem_singleton_self _)
    (fun p hp => by rw [Finset.mem_singleton.mp hp, hsm])
    (fun g u hg => by obtain ⟨ck, rfl, h⟩ := hO g u hg; rw [lv_k]; exact h)

theorem mayWait_k (c : Dev nD) (k : Key) (O : CellTallies nD τ sig Unit) (hO : Above (levK k) O) :
    (levAts L lv : sProp 𝕄) ⊢ MayWait (c : Thread nD τ) (csem k) () O :=
  mayWait c (csem k) O (levK k) (lv_k (c, k) ()) hO

theorem above_dueAll (c : Dev nD) : Above 1 (dueAll c) :=
  above_add (above_add (above_add (above_due c 3 (fun _ => (by decide : 1 < 4)) _) (above_due c 1 (fun _ => (by decide : 1 < 3)) _))
    (above_due c 2 (fun _ => (by decide : 1 < 3)) _)) (above_due c 0 (fun _ => (by decide : 1 < 2)) _)

theorem above_weak {n n' : ℕ} (h : n' ≤ n) {O : CellTallies nD τ sig Unit} (hO : Above n O) : Above n' O := fun g u hg => by
  obtain ⟨ck, e, h'⟩ := hO g u hg; exact ⟨ck, e, by omega⟩

theorem above_owed₀ (c : Dev nD) : Above 0 (owed₀ c) :=
  above_add (above_add (above_add (above_weak (by omega) (above_dueAll c)) (above_tally _ _ (by decide : 0 < 1)))
    (above_tally _ _ (by decide : 0 < 1))) (above_tally _ _ (by decide : 0 < 1))

end Cert.RmsSum

end
-- ==== Proof.Rules.lean ====
/-
The rules of the body's operations, each once, at a symbolic device, channel and chunk: waiting on a
semaphore of the schedule, sending a chunk, starting a copy, and repeating a stage over the chunks.
-/
module

public import proofs.«01_k».proof.Proof.Schedule

@[expose] public section

noncomputable section

namespace Cert.RmsSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a piece of device `c`'s body. -/
abbrev WP (c : Dev nD) {α : Type} (p : Prog (TpuEff nD τ sig (Elt F) Λ₀ .tc) α) (Q : α → sProp (MT nD τ sig Unit (Elt F) ℕ UU ℕ)) :
    sProp (MT nD τ sig Unit (Elt F) ℕ UU ℕ) :=
  wp frame (wpE (defs₀ (F := F)) 𝒱₀ (c : Thread nD τ) none) Set.univ p Q

section Prog
variable (c : Dev nD) {α β : Type}
theorem WP_ret (a : α) (Q : α → sProp (MT nD τ sig Unit (Elt F) ℕ UU ℕ)) : Q a ⊢ WP c (Prog.ret a) Q := by
  show _ ⊢ wp frame (wpE (defs₀ (F := F)) 𝒱₀ (c : Thread nD τ) none) Set.univ (Prog.ret a) Q
  rw [wp_ret]
  iintro H
  imodintro
  iexact H
theorem WP_bind (p : Prog (TpuEff nD τ sig (Elt F) Λ₀ .tc) α) (k : α → Prog (TpuEff nD τ sig (Elt F) Λ₀ .tc) β)
    (Q : β → sProp (MT nD τ sig Unit (Elt F) ℕ UU ℕ)) : WP c (p >>= k) Q = WP c p (fun a => WP c (k a) Q) := wp_bind ..
/-- A piece followed by what consumes its result. -/
theorem WP_mono (p : Prog (TpuEff nD τ sig (Elt F) Λ₀ .tc) α) (Q Q' : α → sProp (MT nD τ sig Unit (Elt F) ℕ UU ℕ)) :
    WP c p Q ⊢ iprop((∀ a, Q a -∗ Q' a) -∗ WP c p Q') := by
  iintro H
  iintro Hk
  iapply (wp_mono frame (wpE (defs₀ (F := F)) 𝒱₀ (c : Thread nD τ) none) Set.univ (Q := fun a => iprop(Q a ∗ ∀ a, Q a -∗ Q' a)) (fun a => by
    iintro ⟨H, Hk⟩
    iapply Hk; iexact H))
  iapply (wp_frame_r frame (wpE (defs₀ (F := F)) 𝒱₀ (c : Thread nD τ) none) Set.univ)
  isplitl [H]; · iexact H
  iexact Hk
end Prog

variable (m : (ℓ : Loc nD τ sig) → Buf (Elt F) ℓ) (K : Dev nD × Key → ℕ)

/-! ## What every step may use, and the parts it consumes -/

/-- The invariants of all semaphores, that each has reached its one round, and the order of the waits. -/
def ctx : sProp 𝕄 :=
  iprop((bigSep Finset.univ fun ck : Dev nD × Key => cellInv ER (sched m) (K ck) (kcell ck))
    ∗ (bigSep Finset.univ fun ck : Dev nD × Key => reached ER (kcell ck) 0) ∗ levAts L lv)

instance ctx_persistent : BI.Persistent (ctx (F := F) m K) := by unfold ctx; infer_instance

theorem ctx_inv (ck : Dev nD × Key) : ctx (F := F) m K ⊢ cellInv ER (sched m) (K ck) (kcell ck) := by
  unfold ctx
  iintro ⟨H, -⟩
  have h : (bigSep Finset.univ fun ck : Dev nD × Key => (cellInv ER (sched m) (K ck) (kcell ck) : sProp 𝕄)) ⊢ cellInv ER (sched m) (K ck) (kcell ck) := bigSep_elim (Finset.mem_univ ck)
  iapply h
  iexact H
theorem ctx_reached (ck : Dev nD × Key) : ctx (F := F) m K ⊢ reached ER (kcell ck) 0 := by
  unfold ctx
  iintro ⟨-, H, -⟩
  have h : (bigSep Finset.univ fun ck : Dev nD × Key => (reached ER (kcell ck) 0 : sProp 𝕄)) ⊢ reached ER (kcell ck) 0 := bigSep_elim (Finset.mem_univ ck)
  iapply h
  iexact H
theorem ctx_lev : ctx (F := F) m K ⊢ (levAts L lv : sProp 𝕄) := by
  unfold ctx
  iintro ⟨-, -, H⟩
  iexact H
theorem ctx_mayWait (c : Dev nD) (k : Key) (O : CellTallies nD τ sig Unit) (hO : Above (levK k) O) :
    ctx (F := F) m K ⊢ MayWait (c : Thread nD τ) (csem k) () O := by
  unfold ctx
  iintro ⟨-, -, H⟩
  iapply (mayWait_k (F := F) c k O hO)
  iexact H

/-- The position of a semaphore before and after its round, its duty, and its credit. -/
abbrev pos0 (c : Dev nD) (k : Key) : sProp 𝕄 := atPos ER (kcell (c, k)) 0 ∅ 0
abbrev pos1 (c : Dev nD) (k : Key) : sProp 𝕄 := atPos ER (kcell (c, k)) (0 + 1) ∅ 0
abbrev duty (c : Dev nD) (k : Key) (d : Fin 3) : sProp 𝕄 := dutyTok ER (kcell (c, k)) 0 d
abbrev crd (c : Dev nD) (k : Key) : sProp 𝕄 := cred (tallyAt (kcell (c, k)) () (amtK k))
/-- Device `c` owes `O`, whatever it has waited for. -/
def owesX (c : Dev nD) (O : CellTallies nD τ sig Unit) : sProp 𝕄 := iprop(∃ W, owes (c : Thread nD τ) O W)

/-- A chunk of a buffer at some contents. -/
abbrev someSlot (c : Dev nD) (M : Slots) (j : Fin 8) : sProp 𝕄 := iprop(∃ w, owns (c : Thread nD τ) (slotM M j) fullShare w)
abbrev someRow (c : Dev nD) (M : Rows) (j : Fin 8) : sProp 𝕄 := iprop(∃ w, owns (c : Thread nD τ) (rowM M j) fullShare w)
abbrev someOut (c : Dev nD) (g : Fin 4) (j : Fin 8) : sProp 𝕄 := iprop(∃ w, owns (c : Thread nD τ) (outM c g j) fullShare w)

/-! ## Loads and stores -/

section LoadStore

variable (c : Dev nD)

theorem wp_ldSlot {Q : Vec F S1x32x1024 .bf16 → sProp 𝕄} (M : Slots) (j : Fin 8) (q : PosShare TreeShare) (w : S1x32x1024.Idx → Elt F .bf16) :
    owns (c : Thread nD τ) (slotM M j) q w
      ⊢ (iprop((owns (c : Thread nD τ) (slotM M j) q w -∗ Q w) -∗ WP c (ldSlot M j) Q) : sProp 𝕄) :=
  (wp_ld c M (slotR j) (fun _ => rfl) q w _ Prog.ret).trans (wand_mono (wand_mono .rfl (WP_ret c _ Q)) .rfl)

theorem wp_ldRow {Q : Vec F S32x1024 .f32 → sProp 𝕄} (M : Rows) (j : Fin 8) (w : S32x1024.Idx → Elt F .f32) :
    owns (c : Thread nD τ) (rowM M j) fullShare w
      ⊢ (iprop((owns (c : Thread nD τ) (rowM M j) fullShare w -∗ Q w) -∗ WP c (ldRow M j) Q) : sProp 𝕄) :=
  (wp_ld c M (rowR j) (fun _ => rfl) fullShare w _ Prog.ret).trans (wand_mono (wand_mono .rfl (WP_ret c _ Q)) .rfl)

theorem wp_ldRow_of {Q : Vec F S32x1024 .f32 → sProp 𝕄} (M : Rows) (j : Fin 8) (X : S256x1024.Idx → Elt F .f32) :
    owns (c : Thread nD τ) M fullShare X
      ⊢ (iprop((owns (c : Thread nD τ) M fullShare X -∗ Q (chunk X j)) -∗ WP c (ldRow M j) Q) : sProp 𝕄) :=
  (wp_ld_of c M (rowR j) fullShare X _ Prog.ret).trans (wand_mono (wand_mono .rfl (WP_ret c _ Q)) .rfl)

/-- What loading gamma reads. -/
abbrev gamOf (X : S1024.Idx → Elt F .f32) : Vec F S1024 .f32 := fun i => X (gamR.emb i)

theorem wp_ldGam {Q : Vec F S1024 .f32 → sProp 𝕄} (X : S1024.Idx → Elt F .f32) :
    owns (c : Thread nD τ) gamM fullShare X
      ⊢ (iprop((owns (c : Thread nD τ) gamM fullShare X -∗ Q (gamOf X)) -∗ WP c ldGam Q) : sProp 𝕄) :=
  (wp_ld_of c gamM gamR fullShare X _ Prog.ret).trans (wand_mono (wand_mono .rfl (WP_ret c _ Q)) .rfl)

theorem wp_stSlot {Q : PUnit → sProp 𝕄} (M : Slots) (hM : M.IsWhole) (j : Fin 8) (w₀ w : S1x32x1024.Idx → Elt F .bf16) :
    owns (c : Thread nD τ) (slotM M j) fullShare w₀
      ⊢ (iprop((owns (c : Thread nD τ) (slotM M j) fullShare w -∗ Q ⟨⟩) -∗ WP c (stSlot M hM j w) Q) : sProp 𝕄) :=
  (wp_st c M (slotR j) (fun _ => rfl) w₀ w _ _ Prog.ret).trans (wand_mono (wand_mono .rfl (WP_ret c _ Q)) .rfl)

theorem wp_stRow {Q : PUnit → sProp 𝕄} (M : Rows) (j : Fin 8) (w₀ w : S32x1024.Idx → Elt F .f32) :
    owns (c : Thread nD τ) (rowM M j) fullShare w₀
      ⊢ (iprop((owns (c : Thread nD τ) (rowM M j) fullShare w -∗ Q ⟨⟩) -∗ WP c (stRow M j w) Q) : sProp 𝕄) :=
  (wp_st c M (rowR j) (fun _ => rfl) w₀ w _ _ Prog.ret).trans (wand_mono (wand_mono .rfl (WP_ret c _ Q)) .rfl)

end LoadStore

/-! ## Waiting -/

section Wait

variable (c : Dev nD)

/-- Waiting on one of the body's own semaphores hands over what its schedule says. -/
theorem wp_wait {Q : PUnit → sProp 𝕄} (k : OKey) (O : CellTallies nD τ sig Unit) (hO : Above (levK (.inr k)) O)
    {sp sp' : Space} {s s' : Shape} {e e' : EltTy} (src : Memref sig .tc sp s e) (dst : Memref sig .tc sp' s' e')
    (hsrc : src.view.WordExact) (hdst : dst.view.WordExact) (hN : dst.view.dmaCredit = amtK (.inr k)) :
    iprop(ctx m K ∗ owesX c O ∗ pos0 c (.inr k) ∗ crd c (.inr k))
      ⊢ iprop(((owesX c O ∗ pos1 c (.inr k) ∗ payK m c (.inr k) 0) -∗ Q ⟨⟩)
          -∗ WP c (Prog.lift (.waitDma2 (num k) src dst hsrc hdst)) Q) := by
  unfold owesX
  iintro ⟨#HC, ⟨%W, HO⟩, Hat, Hc⟩
  iintro Hk
  ihave #HI := (ctx_inv m K (c, .inr k)) $$ HC
  have hL : ctx (F := F) m K ⊢ MayWait (c : Thread nD τ) (osem k) () O := ctx_mayWait m K c (.inr k) O hO
  iapply (Rounds.wp_wait_rest_token 𝒱₀ ER (sched m) (c : Thread nD τ) none (κ := K (c, .inr k)) (sm := osem k) (k' := amtK (.inr k)) (k := Prog.ret)
      (fun Kt => by rw [← hN]; exact wpE_waitDma2_eq 𝒱₀ (c : Thread nD τ) none Set.univ Kt) (Set.mem_univ _) () (O := O) (W := W) (R := 0) (m := 0) (T := ∅)
      (by rw [Nat.zero_add]; exact (expect_o m c k).symm)) $$ [Hc HO Hat]
  · isplitr; · iexact HI
    isplitl [Hc]; · iexact Hc
    isplitl [HO]; · iexact HO
    isplitr; · iapply hL; iexact HC
    iexact Hat
  iintro ⟨HO, Hat, -, Hpay⟩
  ihave Hp := (show (bigSep ((sched (F := F) m).duties ((c : Thread nD τ), osem k) 0 \ ∅) fun d => (sched (F := F) m).payload ((c : Thread nD τ), osem k) 0 d)
    ⊢ payK m c (.inr k) 0 from Entails.of_eq (rest_o m c k)) $$ Hpay
  rw [wp_ret]
  imodintro
  iapply Hk
  isplitl [HO]; · iexists _; iexact HO
  isplitl [Hat]; · iexact Hat
  iexact Hp

/-- Waiting for a chunk to land. -/
theorem wp_waitRcv {Q : PUnit → sProp 𝕄} (h : Fin 4) (j : Fin 8) (O : CellTallies nD τ sig Unit) (hO : Above (levK (kRcv h j)) O) :
    iprop(ctx m K ∗ owesX c O ∗ pos0 c (kRcv h j) ∗ crd c (kRcv h j))
      ⊢ iprop(((owesX c O ∗ pos1 c (kRcv h j) ∗ owns (c : Thread nD τ) (slotM (landB h) j) fullShare (gotW m h c j)) -∗ Q ⟨⟩)
          -∗ WP c (waitRcv h j) Q) :=
  wp_wait m K c (.inr (2, h, j)) O hO (srcM h j) (landM h j) _ _ (by fin_cases h <;> rfl)

/-- Waiting for a send to have been read out. -/
theorem wp_waitSnd {Q : PUnit → sProp 𝕄} (h : Fin 4) (j : Fin 8) (O : CellTallies nD τ sig Unit) (hO : Above (levK (kSnd h j)) O) :
    iprop(ctx m K ∗ owesX c O ∗ pos0 c (kSnd h j) ∗ crd c (kSnd h j))
      ⊢ iprop(((owesX c O ∗ pos1 c (kSnd h j) ∗ sndPay m c h j) -∗ Q ⟨⟩) -∗ WP c (waitSnd h j) Q) :=
  wp_wait m K c (.inr (1, h, j)) O hO (landM h j) (srcM h j) _ _ (by fin_cases h <;> rfl)

/-- Waiting for a write-back. -/
theorem wp_wbWait {Q : PUnit → sProp 𝕄} (g : Fin 4) (j : Fin 8) (O : CellTallies nD τ sig Unit) (hO : Above (levK (kWb g j)) O) :
    iprop(ctx m K ∗ owesX c O ∗ pos0 c (kWb g j) ∗ crd c (kWb g j))
      ⊢ iprop(((owesX c O ∗ pos1 c (kWb g j) ∗ wbPay m c g j) -∗ Q ⟨⟩) -∗ WP c (wbWait c g j) Q) :=
  wp_wait m K c (.inr (0, g, j)) O hO (rowM (wbB g) j) (outM c g j) _ _ rfl

end Wait

/-! ## Copies -/

section Copy

variable (c : Dev nD)

/-- The step that starts a copy within the device. -/
abbrev copyTo {sp sp' : Space} {s : Shape} {e : EltTy} (k : OKey) (src : Memref sig .tc sp s e) (dst : Memref sig .tc sp' s e)
    (hsrc : src.view.WordExact) (hdst : dst.view.WordExact)
    (hsem : DmaTarget.Typed (nD := nD) (p := (c : Thread nD τ).2) sp (.dma (num k)) (.here dst)) : KProg F PUnit :=
  Prog.lift (.enqueueDma src (.here dst) (.dma (num k)) hsrc hdst hsem)

/-- A copy within the device, on one of the body's own semaphores. -/
theorem wp_copyTo {Q : PUnit → sProp 𝕄} (k : OKey) {sp sp' : Space} {s : Shape} {e : EltTy} (src : Memref sig .tc sp s e) (dst : Memref sig .tc sp' s e)
    (hsrc : src.view.WordExact) (hdst : dst.view.WordExact) (hsem : DmaTarget.Typed (nD := nD) (p := (c : Thread nD τ).2) sp (.dma (num k)) (.here dst))
    (hN : dst.view.dmaCredit = amtK (.inr k))
    (q : PosShare TreeShare) (fs : Buf (Elt F) (src.view.loc (c : Thread nD τ)))
    (hpay : (iprop(owns (c : Thread nD τ) dst fullShare (src.view.read (Elt F) fs) ∗ (src.view.loc (c : Thread nD τ) ↦[src.view.set]{q} fs)) : sProp 𝕄) ⊢ payK m c (.inr k) 0) :
    iprop(ctx m K ∗ (src.view.loc (c : Thread nD τ) ↦[src.view.set]{q} fs) ∗ (∃ w, owns (c : Thread nD τ) dst fullShare w) ∗ duty c (.inr k) 0)
      ⊢ iprop((crd c (.inr k) -∗ Q ⟨⟩) -∗ WP c (copyTo c k src dst hsrc hdst hsem) Q) := by
  unfold owns
  iintro ⟨#HC, Hs, ⟨%w, %fd, -, Hd⟩, Ht⟩
  iintro Hk
  ihave #HI := (ctx_inv m K (c, .inr k)) $$ HC
  ihave #HR := (ctx_reached m K (c, .inr k)) $$ HC
  iapply (Rounds.wp_copy_pointsTo 𝒱₀ ER (sched m) (c : Thread nD τ) none (src := src) (dst := dst) (sem := osem k) (κ := K (c, .inr k)) (r := 0) (d := 0) (fd := fd) (fs := fs) (q := q)
      (k := Prog.ret)
      (by rw [show (((c : Thread nD τ), osem k) : GSem nD τ sig) = kcell (c, .inr k) from rfl, duties_k]; exact Finset.mem_singleton_self _) () (amtK (.inr k)) hN (amount_k m c (.inr k) 0)
      (by
        rw [show (((c : Thread nD τ), osem k) : GSem nD τ sig) = kcell (c, .inr k) from rfl, payload_k]
        refine .trans ?_ hpay
        refine sep_mono_left ?_
        unfold owns
        iintro H
        iexists (dst.view.write (Elt F) fd (src.view.read (Elt F) fs) Finset.univ)
        isplitr; · ipureintro; exact View.read_write_univ _ _
        iexact H)) $$ [Hs Hd Ht]
  · isplitr; · iexact HI
    isplitl [Hs]; · iexact Hs
    isplitl [Hd]; · iexact Hd
    isplitl [Ht]; · iexact Ht
    iexact HR
  iintro Hc
  rw [wp_ret]
  imodintro
  iapply Hk; iexact Hc

/-- What write-back `g` of chunk `j` consumes beside its source: the rows of the result and its duty. -/
def wbRes (g : Fin 4) (j : Fin 8) : sProp 𝕄 := iprop(someOut c g j ∗ duty c (kWb g j) 0)

/-- Starting write-back `g` of chunk `j`. -/
theorem wp_wbCopy {Q : PUnit → sProp 𝕄} (g : Fin 4) (j : Fin 8) :
    iprop(ctx m K ∗ owns (c : Thread nD τ) (rowM (wbB g) j) fullShare (outW m g c j) ∗ wbRes c g j)
      ⊢ iprop((crd c (kWb g j) -∗ Q ⟨⟩) -∗ WP c (wbCopy c g j) Q) := by
  unfold wbRes someOut
  iintro ⟨#HC, Hs, Hd, Ht⟩
  ihave Hs' := (show owns (c : Thread nD τ) (rowM (wbB g) j) fullShare (outW m g c j)
    ⊢ (iprop(∃ f, ⌜(rowM (wbB g) j).view.read (Elt F) f = outW m g c j⌝ ∗ ((rowM (wbB g) j).view.loc (c : Thread nD τ) ↦[(rowM (wbB g) j).view.set]{fullShare} f)) : sProp 𝕄) from .rfl) $$ Hs
  icases Hs' with ⟨%fs, %hfs, Hs⟩
  iapply (wp_copyTo m K c (.inr (0, g, j)) (rowM (wbB g) j) (outM c g j) _ _ _ rfl fullShare fs
    (by
      rw [hfs]
      show _ ⊢ wbPay m c g j
      unfold wbPay
      refine sep_mono_right ?_
      unfold owns
      iintro H
      iexists fs
      isplitr; · ipureintro; exact hfs
      iexact H)) $$ [Hs Hd Ht]
  isplitr; · iexact HC
  isplitl [Hs]; · iexact Hs
  isplitl [Hd]; · iexact Hd
  iexact Ht

/-- What sending chunk `j` on channel `h` consumes beside its source: the peer's landing slot and the two duties. -/
def sendRes (h : Fin 4) (j : Fin 8) : sProp 𝕄 :=
  iprop(someSlot (peer h j c) (landB h) j ∗ duty c (kSnd h j) 0 ∗ duty (peer h j c) (kRcv h j) 0)

theorem landM_credit : ∀ (h : Fin 4) (j : Fin 8), (landM h j).view.dmaCredit = NS
  | 0, _ => rfl | 1, _ => rfl | 2, _ => rfl | 3, _ => rfl

/-- The step that sends chunk `j` on channel `h` to device `n`. -/
abbrev sendTo (n : Dev nD) (h : Fin 4) (j : Fin 8) : KProg F PUnit :=
  Prog.lift (.enqueueDma (srcM h j) (.remote (Dev.tc n) (landM h j) (.dma (sndS h j))) (.dma (rcvS h j))
    (slot_exact (srcB_whole h) j) (slot_exact (landB_whole h) j) ⟨⟨rfl, Or.inl rfl⟩, trivial⟩)

theorem sendCh_eq (h : Fin 4) (j : Fin 8) : (sendCh c h j : KProg F PUnit) = sendTo (peer h j c) h j :=
  congrArg (fun n => (sendTo n h j : KProg F PUnit)) (chDev_eq c h j)

/-- Sending chunk `j` on channel `h`. -/
theorem wp_sendCh {Q : PUnit → sProp 𝕄} (h : Fin 4) (j : Fin 8) (O : CellTallies nD τ sig Unit) :
    iprop(ctx m K ∗ owesX c (O + tallyAt (kcell (peer h j c, kRcv h j)) () NS)
        ∗ owns (c : Thread nD τ) (slotM (srcB h) j) (shareOf h) (sentW m h c j) ∗ sendRes c h j)
      ⊢ iprop(((owesX c O ∗ crd c (kSnd h j)) -∗ Q ⟨⟩) -∗ WP c (sendCh c h j) Q) := by
  rw [sendCh_eq]
  unfold owesX sendRes
  iintro ⟨#HC, ⟨%W, HO⟩, Hs, ⟨%w, Hd⟩, Ht1, Ht2⟩
  iintro Hk
  ihave Hs' := (Entails.of_eq (owns_flat c (srcB h) j (shareOf h) (sentW m h c j)).symm) $$ Hs
  ihave Hd' := (Entails.of_eq (owns_flat (peer h j c) (landB h) j fullShare w).symm) $$ Hd
  unfold owns
  icases Hs' with ⟨%fs, %hfs, Hs⟩
  icases Hd' with ⟨%fd, -, Hd⟩
  ihave #HI1 := (ctx_inv m K (c, kSnd h j)) $$ HC
  ihave #HR1 := (ctx_reached m K (c, kSnd h j)) $$ HC
  ihave #HI2 := (ctx_inv m K (peer h j c, kRcv h j)) $$ HC
  ihave #HR2 := (ctx_reached m K (peer h j c, kRcv h j)) $$ HC
  iapply (Rounds.wp_send_pointsTo 𝒱₀ ER (sched m) (c : Thread nD τ) none (c' := (peer h j c : Thread nD τ)) (src := srcM h j) (dst := landM h j)
      (sS := .dma (sndS h j)) (sem := .dma (rcvS h j)) (κ₁ := K (c, kSnd h j)) (κ₂ := K (peer h j c, kRcv h j))
      (k := Prog.ret) (r₁ := 0) (r₂ := 0) (d₁ := 0) (d₂ := 0) (fs := fs) (fd := fd) (q := shareOf h)
      (by rw [show (((c : Thread nD τ), .dma (sndS h j)) : GSem nD τ sig) = kcell (c, kSnd h j) from rfl, duties_k]; exact Finset.mem_singleton_self _)
      (by rw [show (((peer h j c : Thread nD τ), .dma (rcvS h j)) : GSem nD τ sig) = kcell (peer h j c, kRcv h j) from rfl, duties_k]; exact Finset.mem_singleton_self _)
      () () NS (landM_credit h j) (amount_k m c (kSnd h j) 0) (amount_k m (peer h j c) (kRcv h j) 0) O rfl (W := W)
      (by
        rw [show (((c : Thread nD τ), .dma (sndS h j)) : GSem nD τ sig) = kcell (c, kSnd h j) from rfl, payload_k]
        show _ ⊢ owns (c : Thread nD τ) (slotM (srcB h) j) (shareOf h) (sentW m h c j)
        rw [← owns_flat]
        unfold owns
        iintro H
        iexists fs
        isplitr; · ipureintro; exact hfs
        iexact H)
      (by
        rw [show (((peer h j c : Thread nD τ), .dma (rcvS h j)) : GSem nD τ sig) = kcell (peer h j c, kRcv h j) from rfl, payload_k]
        show _ ⊢ owns (peer h j c : Thread nD τ) (slotM (landB h) j) fullShare (gotW m h (peer h j c) j)
        rw [← owns_flat, gotW, peer_peer]
        unfold owns
        iintro H
        iexists ((landM h j).view.write (Elt F) fd ((srcM h j).view.read (Elt F) fs) Finset.univ)
        isplitr; · ipureintro; rw [hfs]; exact View.read_write_univ _ _
        iexact H)) $$ [HO Hs Hd Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  rw [wp_ret]
  imodintro
  iapply Hk
  isplitl [HO]; · iexists _; iexact HO
  iexact Hc

end Copy

/-! ## Repeating a stage -/

/-- A stage that turns `Pre j` into `Post j`, passing on a resource that depends on the chunks still to do,
    turns all of the `Pre`s into all of the `Post`s. -/
theorem wp_eachOf (c : Dev nD) (s : Fin 8 → KProg F PUnit) (R : sProp (MT nD τ sig Unit (Elt F) ℕ UU ℕ)) [BI.Persistent R]
    (T : List (Fin 8) → sProp (MT nD τ sig Unit (Elt F) ℕ UU ℕ)) (Pre Post : Fin 8 → sProp (MT nD τ sig Unit (Elt F) ℕ UU ℕ))
    (hs : ∀ j l, iprop(R ∗ T (j :: l) ∗ Pre j) ⊢ WP c (s j) (fun _ => iprop(T l ∗ Post j))) :
    ∀ l, iprop(R ∗ T l ∗ bigSepL l Pre) ⊢ WP c (eachOf s l) (fun _ => iprop(T [] ∗ bigSepL l Post))
  | [] => by
    rw [bigSepL_nil, bigSepL_nil]
    iintro ⟨-, HT, -⟩
    iapply (WP_ret c (⟨⟩ : PUnit) (fun _ => iprop(T [] ∗ emp)))
    isplitl [HT]; · iexact HT
    iempintro
  | j :: l => by
    show _ ⊢ WP c (s j >>= fun _ => eachOf s l) _
    rw [WP_bind, bigSepL_cons', bigSepL_cons']
    iintro ⟨#HR, HT, Hj, Hl⟩
    iapply (WP_mono c (s j) (fun _ => iprop(T l ∗ Post j)) _) $$ [HT Hj]
    · iapply (hs j l)
      isplitr; · iexact HR
      isplitl [HT]; · iexact HT
      iexact Hj
    iintro %_ ⟨HT, HP⟩
    iapply (WP_mono c (eachOf s l) (fun _ => iprop(T [] ∗ bigSepL l Post)) _) $$ [HT Hl]
    · iapply (wp_eachOf c s R T Pre Post hs l)
      isplitr; · iexact HR
      isplitl [HT]; · iexact HT
      iexact Hl
    iintro %_ ⟨HT, Hl⟩
    isplitl [HT]; · iexact HT
    isplitl [HP]; · iexact HP
    iexact Hl

end Cert.RmsSum

end
-- ==== Proof.Stages.lean ====
/-
The stages of the body: for each the step at one chunk — what it consumes and what it leaves — and the
stage over the eight chunks.
-/
module

public import proofs.«01_k».proof.Proof.Rules

@[expose] public section

noncomputable section

namespace Cert.RmsSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ) (c : Dev nD)

/-- Sending, from what is owed before to what is owed after. -/
theorem wp_sendCh_of {Q : PUnit → sProp 𝕄} (h : Fin 4) (j : Fin 8) {O₀ : CellTallies nD τ sig Unit} (O : CellTallies nD τ sig Unit)
    (hO : O₀ = O + tallyAt (kcell (peer h j c, kRcv h j)) () NS) :
    iprop(ctx m K ∗ owesX c O₀ ∗ owns (c : Thread nD τ) (slotM (srcB h) j) (shareOf h) (sentW m h c j) ∗ sendRes c h j)
      ⊢ iprop(((owesX c O ∗ crd c (kSnd h j)) -∗ Q ⟨⟩) -∗ WP c (sendCh c h j) Q) := by
  subst hO
  exact wp_sendCh m K c h j O

/-! ## Stage A: the half sent along x -/

/-- What the stage passes from chunk to chunk. -/
def stA (l : List (Fin 8)) : sProp 𝕄 :=
  iprop(owesX c (due c 3 all8 + due c 1 all8 + due c 2 all8 + due c 0 l) ∗ owns (c : Thread nD τ) pnM fullShare (pnW m c))

theorem step_A (j : Fin 8) (l : List (Fin 8)) :
    iprop(ctx m K ∗ stA m c (j :: l) ∗ (someSlot c pbM j ∗ sendRes c 0 j)) ⊢ WP c (stepA c j) (fun _ => iprop(stA m c l ∗ crd c (kSnd 0 j))) := by
  unfold stA stepA someSlot
  iintro ⟨#HC, ⟨HO, Hp⟩, ⟨%w, Hs⟩, HR⟩
  rw [WP_bind]
  iapply (wp_ldRow_of c pnM j (pnW m c)) $$ Hp
  iintro Hp
  rw [WP_bind]
  iapply (wp_ldSlot c pbM j fullShare w) $$ Hs
  iintro Hs
  rw [WP_bind]
  iapply (wp_stSlot c pbM (Memref.isWhole_whole _) j w _) $$ Hs
  iintro Hs
  iapply (wp_sendCh_of m K c 0 j (due c 3 all8 + due c 1 all8 + due c 2 all8 + due c 0 l) (by rw [add_assoc (due c 3 all8 + due c 1 all8 + due c 2 all8)])) $$ [HO Hs HR]
  · isplitr; · iexact HC
    isplitl [HO]; · iexact HO
    isplitl [Hs]; · iexact Hs
    iexact HR
  iintro ⟨HO, Hc⟩
  isplitr [Hc]
  · isplitl [HO]; · iexact HO
    iexact Hp
  iexact Hc

/-! ## Stage C: the sum, its normalisation, and the two sends -/

/-- What the stage passes from chunk to chunk. -/
def stC (l : List (Fin 8)) : sProp 𝕄 :=
  iprop(owesX c (due c 3 all8 + due c 1 l + due c 2 l) ∗ owns (c : Thread nD τ) pM fullShare (pW m c)
    ∗ owns (c : Thread nD τ) rM fullShare (rW m c) ∗ owns (c : Thread nD τ) gamM fullShare (gamW m c))

/-- What chunk `j` consumes and what it leaves. -/
def preC (j : Fin 8) : sProp 𝕄 :=
  iprop((pos0 c (kRcv 0 j) ∗ crd c (kRcv 0 j)) ∗ someRow c ovM j ∗ someSlot c obM j ∗ sendRes c 2 j ∗ sendRes c 1 j ∗ wbRes c 0 j)
def postC (j : Fin 8) : sProp 𝕄 :=
  iprop(pos1 c (kRcv 0 j) ∗ someSlot c xcM j ∗ crd c (kSnd 2 j) ∗ crd c (kSnd 1 j) ∗ crd c (kWb 0 j))

theorem above_C (l : List (Fin 8)) : Above 2 (due c 3 all8 + due c 1 l + due c 2 l) :=
  above_add (above_add (above_due c 3 (fun _ => (by decide : 2 < 4)) _) (above_due c 1 (fun _ => (by decide : 2 < 3)) _))
    (above_due c 2 (fun _ => (by decide : 2 < 3)) _)

theorem step_C (j : Fin 8) (l : List (Fin 8)) :
    iprop(ctx m K ∗ stC m c (j :: l) ∗ preC c j) ⊢ WP c (stepC c j) (fun _ => iprop(stC m c l ∗ postC c j)) := by
  unfold stC stepC preC postC someSlot someRow
  iintro ⟨#HC, ⟨HO, Hp, Hr, Hg⟩, ⟨Hat, Hcr⟩, ⟨%wo, Hov⟩, ⟨%wb, Hob⟩, HR2, HR1, HW⟩
  rw [WP_bind]
  iapply (wp_waitRcv m K c 0 j _ (above_C c (j :: l))) $$ [HO Hat Hcr]
  · isplitr; · iexact HC
    isplitl [HO]; · iexact HO
    isplitl [Hat]; · iexact Hat
    iexact Hcr
  iintro ⟨HO, Hat, Hx⟩
  ihave Hx := (show owns (c : Thread nD τ) (slotM (landB 0) j) fullShare (gotW m 0 c j) ⊢ (owns (c : Thread nD τ) (slotM xcM j) fullShare (gotW m 0 c j) : sProp 𝕄) from .rfl) $$ Hx
  rw [WP_bind]
  iapply (wp_ldRow_of c pM j (pW m c)) $$ Hp
  iintro Hp
  rw [WP_bind]
  iapply (wp_ldSlot c xcM j fullShare (gotW m 0 c j)) $$ Hx
  iintro Hx
  rw [WP_bind]
  iapply (wp_ldRow_of c rM j (rW m c)) $$ Hr
  iintro Hr
  rw [WP_bind]
  iapply (wp_ldGam c (gamW m c)) $$ Hg
  iintro Hg
  rw [WP_bind]
  iapply (wp_ldRow c ovM j wo) $$ Hov
  iintro Hov
  rw [WP_bind]
  iapply (wp_stRow c ovM j wo (resW m c j)) $$ Hov
  iintro Hov
  rw [WP_bind]
  iapply (wp_ldSlot c obM j fullShare wb) $$ Hob
  iintro Hob
  rw [WP_bind]
  iapply (wp_stSlot c obM (Memref.isWhole_whole _) j wb (obW m c j)) $$ Hob
  iintro Hob
  icases (owns_halves (c : Thread nD τ) (slotM obM j) fullShare (obW m c j)).1 $$ Hob with ⟨Hl, Hrt⟩
  rw [WP_bind]
  iapply (wp_sendCh_of m K c 2 j (due c 3 all8 + due c 1 (j :: l) + due c 2 l) (by rw [add_assoc (due c 3 all8 + due c 1 (j :: l))])) $$ [HO Hrt HR2]
  · isplitr; · iexact HC
    isplitl [HO]; · iexact HO
    isplitl [Hrt]; · iexact Hrt
    iexact HR2
  iintro ⟨HO, Hc2⟩
  rw [WP_bind]
  iapply (wp_sendCh_of m K c 1 j (due c 3 all8 + due c 1 l + due c 2 l) (by
    rw [add_right_comm (due c 3 all8 + due c 1 l), add_assoc (due c 3 all8) (due c 1 l)])) $$ [HO Hl HR1]
  · isplitr; · iexact HC
    isplitl [HO]; · iexact HO
    isplitl [Hl]; · iexact Hl
    iexact HR1
  iintro ⟨HO, Hc1⟩
  iapply (wp_wbCopy m K c 0 j) $$ [Hov HW]
  · isplitr; · iexact HC
    isplitl [Hov]; · iexact Hov
    iexact HW
  iintro Hcw
  isplitl [HO Hp Hr Hg]
  · isplitl [HO]; · iexact HO
    isplitl [Hp]; · iexact Hp
    isplitl [Hr]; · iexact Hr
    iexact Hg
  isplitl [Hat]; · iexact Hat
  isplitl [Hx]; · iexists _; iexact Hx
  isplitl [Hc2]; · iexact Hc2
  isplitl [Hc1]; · iexact Hc1
  iexact Hcw

/-! ## Stages D and E: the arrived chunks widened and written back -/

/-- Widening an arrived chunk and starting its write-back. -/
theorem wp_stepExt {Q : PUnit → sProp 𝕄} (h g : Fin 4) (j : Fin 8) (q : PosShare TreeShare) (hw : outW m g c j = k0_pay40 (gotW m h c j)) :
    iprop(ctx m K ∗ owns (c : Thread nD τ) (slotM (landB h) j) q (gotW m h c j) ∗ someRow c (wbB g) j ∗ wbRes c g j)
      ⊢ iprop(((owns (c : Thread nD τ) (slotM (landB h) j) q (gotW m h c j) ∗ crd c (kWb g j)) -∗ Q ⟨⟩) -∗ WP c (stepExt c h g j) Q) := by
  unfold stepExt someRow
  iintro ⟨#HC, Hx, ⟨%w, Hr⟩, HW⟩
  iintro Hk
  rw [WP_bind]
  iapply (wp_ldSlot c (landB h) j q (gotW m h c j)) $$ Hx
  iintro Hx
  rw [WP_bind]
  iapply (wp_ldRow c (wbB g) j w) $$ Hr
  iintro Hr
  rw [WP_bind, ← hw]
  iapply (wp_stRow c (wbB g) j w (outW m g c j)) $$ Hr
  iintro Hr
  iapply (wp_wbCopy m K c g j) $$ [Hr HW]
  · isplitr; · iexact HC
    isplitl [Hr]; · iexact Hr
    iexact HW
  iintro Hc
  iapply Hk
  isplitl [Hx]; · iexact Hx
  iexact Hc

def preD (j : Fin 8) : sProp 𝕄 :=
  iprop((pos0 c (kRcv 2 j) ∗ crd c (kRcv 2 j)) ∗ sendRes c 3 j ∗ someRow c q2M j ∗ wbRes c 1 j)
def postD (j : Fin 8) : sProp 𝕄 :=
  iprop(pos1 c (kRcv 2 j) ∗ owns (c : Thread nD τ) (slotM ziM j) fullShare.right (gotW m 2 c j) ∗ crd c (kSnd 3 j) ∗ crd c (kWb 1 j))

theorem step_D (j : Fin 8) (l : List (Fin 8)) :
    iprop(ctx m K ∗ owesX c (due c 3 (j :: l)) ∗ preD c j) ⊢ WP c (stepD c j) (fun _ => iprop(owesX c (due c 3 l) ∗ postD m c j)) := by
  unfold stepD preD postD
  iintro ⟨#HC, HO, ⟨Hat, Hcr⟩, HR, Hrow, HW⟩
  rw [WP_bind]
  iapply (wp_waitRcv m K c 2 j _ (above_due c 3 (fun _ => (by decide : 3 < 4)) (j :: l))) $$ [HO Hat Hcr]
  · isplitr; · iexact HC
    isplitl [HO]; · iexact HO
    isplitl [Hat]; · iexact Hat
    iexact Hcr
  iintro ⟨HO, Hat, Hx⟩
  icases (show owns (c : Thread nD τ) (slotM (landB 2) j) fullShare (gotW m 2 c j)
    ⊢ (iprop(owns (c : Thread nD τ) (slotM ziM j) fullShare.left (gotW m 2 c j) ∗ owns (c : Thread nD τ) (slotM ziM j) fullShare.right (gotW m 2 c j)) : sProp 𝕄)
    from (owns_halves (c : Thread nD τ) (slotM ziM j) fullShare (gotW m 2 c j)).1) $$ Hx with ⟨Hl, Hrt⟩
  rw [WP_bind]
  iapply (wp_sendCh_of m K c 3 j (due c 3 l) rfl) $$ [HO Hl HR]
  · isplitr; · iexact HC
    isplitl [HO]; · iexact HO
    isplitl [Hl]; · iexact Hl
    iexact HR
  iintro ⟨HO, Hc⟩
  iapply (wp_stepExt m K c 2 1 j fullShare.right rfl) $$ [Hrt Hrow HW]
  · isplitr; · iexact HC
    isplitl [Hrt]; · iexact Hrt
    isplitl [Hrow]; · iexact Hrow
    iexact HW
  iintro ⟨Hx, Hcw⟩
  isplitl [HO]; · iexact HO
  isplitl [Hat]; · iexact Hat
  isplitl [Hx]; · iexact Hx
  isplitl [Hc]; · iexact Hc
  iexact Hcw

def preE (h g : Fin 4) (j : Fin 8) : sProp 𝕄 :=
  iprop((pos0 c (kRcv h j) ∗ crd c (kRcv h j)) ∗ someRow c (wbB g) j ∗ wbRes c g j)
def postE (h g : Fin 4) (j : Fin 8) : sProp 𝕄 := iprop(pos1 c (kRcv h j) ∗ someSlot c (landB h) j ∗ crd c (kWb g j))

theorem step_E (h g : Fin 4) (hw : ∀ j, outW m g c j = k0_pay40 (gotW m h c j)) (j : Fin 8) :
    iprop(ctx m K ∗ owesX c 0 ∗ preE c h g j) ⊢ WP c (stepE c h g j) (fun _ => iprop(owesX c 0 ∗ postE c h g j)) := by
  unfold stepE preE postE someSlot
  iintro ⟨#HC, HO, ⟨Hat, Hcr⟩, Hrow, HW⟩
  rw [WP_bind]
  iapply (wp_waitRcv m K c h j 0 (above_zero _)) $$ [HO Hat Hcr]
  · isplitr; · iexact HC
    isplitl [HO]; · iexact HO
    isplitl [Hat]; · iexact Hat
    iexact Hcr
  iintro ⟨HO, Hat, Hx⟩
  iapply (wp_stepExt m K c h g j fullShare (hw j)) $$ [Hx Hrow HW]
  · isplitr; · iexact HC
    isplitl [Hx]; · iexact Hx
    isplitl [Hrow]; · iexact Hrow
    iexact HW
  iintro ⟨Hx, Hcw⟩
  isplitl [HO]; · iexact HO
  isplitl [Hat]; · iexact Hat
  isplitl [Hx]; · iexists _; iexact Hx
  iexact Hcw

/-! ## The waits at the end -/

/-- Before and after waiting for channel `h`'s send, and for write-back `g`, of chunk `j`. -/
def preS (h : Fin 4) (j : Fin 8) : sProp 𝕄 := iprop(pos0 c (kSnd h j) ∗ crd c (kSnd h j))
def postS (h : Fin 4) (j : Fin 8) : sProp 𝕄 := iprop(pos1 c (kSnd h j) ∗ sndPay m c h j)
def preW (g : Fin 4) (j : Fin 8) : sProp 𝕄 := iprop(pos0 c (kWb g j) ∗ crd c (kWb g j))
def postW (g : Fin 4) (j : Fin 8) : sProp 𝕄 := iprop(pos1 c (kWb g j) ∗ wbPay m c g j)

theorem wp_waitSnd0 {Q : PUnit → sProp 𝕄} (h : Fin 4) (j : Fin 8) :
    iprop(ctx m K ∗ owesX c 0 ∗ preS c h j) ⊢ iprop(((owesX c 0 ∗ postS m c h j) -∗ Q ⟨⟩) -∗ WP c (waitSnd h j) Q) :=
  wp_waitSnd m K c h j 0 (above_zero _)

theorem step_G (j : Fin 8) :
    iprop(ctx m K ∗ owesX c 0 ∗ (preS c 0 j ∗ preS c 1 j ∗ preS c 2 j ∗ preS c 3 j))
      ⊢ WP c (stepG j) (fun _ => iprop(owesX c 0 ∗ (postS m c 0 j ∗ postS m c 1 j ∗ postS m c 2 j ∗ postS m c 3 j))) := by
  unfold stepG
  iintro ⟨#HC, HO, H0, H1, H2, H3⟩
  rw [WP_bind]
  iapply (wp_waitSnd0 m K c 0 j) $$ [HO H0]
  · isplitr; · iexact HC
    isplitl [HO]; · iexact HO
    iexact H0
  iintro ⟨HO, H0⟩
  rw [WP_bind]
  iapply (wp_waitSnd0 m K c 1 j) $$ [HO H1]
  · isplitr; · iexact HC
    isplitl [HO]; · iexact HO
    iexact H1
  iintro ⟨HO, H1⟩
  rw [WP_bind]
  iapply (wp_waitSnd0 m K c 2 j) $$ [HO H2]
  · isplitr; · iexact HC
    isplitl [HO]; · iexact HO
    iexact H2
  iintro ⟨HO, H2⟩
  iapply (wp_waitSnd0 m K c 3 j) $$ [HO H3]
  · isplitr; · iexact HC
    isplitl [HO]; · iexact HO
    iexact H3
  iintro ⟨HO, H3⟩
  isplitl [HO]; · iexact HO
  isplitl [H0]; · iexact H0
  isplitl [H1]; · iexact H1
  isplitl [H2]; · iexact H2
  iexact H3

theorem step_H (g : Fin 4) (j : Fin 8) :
    iprop(ctx m K ∗ owesX c 0 ∗ preW c g j) ⊢ WP c (stepH c g j) (fun _ => iprop(owesX c 0 ∗ postW m c g j)) := by
  unfold stepH preW postW
  iintro H
  iapply (wp_wbWait m K c g j 0 (above_zero _)) $$ H
  iintro ⟨HO, H⟩
  isplitl [HO]; · iexact HO
  iexact H

/-! ## A stage over the eight chunks -/

/-- All eight chunks' share of something. -/
abbrev every (Φ : Fin 8 → sProp (MT nD τ sig Unit (Elt F) ℕ UU ℕ)) : sProp (MT nD τ sig Unit (Elt F) ℕ UU ℕ) := bigSep Finset.univ Φ

theorem every_list (Φ : Fin 8 → sProp (MT nD τ sig Unit (Elt F) ℕ UU ℕ)) : every Φ = bigSepL all8 Φ :=
  bigSep_univ_eq_bigSepL all8 (by decide) (by decide) Φ

theorem wp_stage {Q : PUnit → sProp 𝕄} (s : Fin 8 → KProg F PUnit) (T : List (Fin 8) → sProp (MT nD τ sig Unit (Elt F) ℕ UU ℕ))
    (Pre Post : Fin 8 → sProp (MT nD τ sig Unit (Elt F) ℕ UU ℕ))
    (hs : ∀ j l, iprop(ctx m K ∗ T (j :: l) ∗ Pre j) ⊢ WP c (s j) (fun _ => iprop(T l ∗ Post j))) :
    iprop(ctx m K ∗ T all8 ∗ every Pre) ⊢ iprop(((T [] ∗ every Post) -∗ Q ⟨⟩) -∗ WP c (eachOf s all8) Q) := by
  rw [every_list, every_list]
  iintro H
  iintro Hk
  iapply (WP_mono c (eachOf s all8) (fun _ => iprop(T [] ∗ bigSepL all8 Post)) Q) $$ [H]
  · iapply (wp_eachOf c s (ctx m K) T Pre Post hs all8)
    iexact H
  iintro %_ H
  iapply Hk; iexact H

end Cert.RmsSum

end
-- ==== Proof.Buffers.lean ====
/-
Whole buffers and their chunks, the landing slots lent and borrowed in the entry handshake, and the
input copies.
-/
module

public import proofs.«01_k».proof.Proof.Stages

@[expose] public section

noncomputable section

namespace Cert.RmsSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ) (c : Dev nD)

/-! ## Whole buffers and their chunks -/

/-- A whole buffer at some contents. -/
abbrev someBuf (b : Ref sig .tc) : sProp 𝕄 := iprop(∃ f : Buf (Elt F) ((c : Thread nD τ).loc b), ((c : Thread nD τ).loc b) ↦{fullShare} f)

theorem someBuf_owns (b : Ref sig .tc) :
    (someBuf c b : sProp 𝕄) ⊢ iprop(∃ X, owns (c : Thread nD τ) (Memref.whole b) fullShare X) := by
  unfold owns
  simp only [Memref.view_whole, View.read_whole, View.set_whole]
  iintro ⟨%f, H⟩
  iexists f, f
  isplitr; · ipureintro; rfl
  iexact H

theorem owns_someBuf (b : Ref sig .tc) :
    iprop(∃ X, owns (c : Thread nD τ) (Memref.whole b) fullShare X) ⊢ (someBuf c b : sProp 𝕄) := by
  unfold owns
  simp only [Memref.view_whole, View.read_whole, View.set_whole]
  iintro ⟨%X, %f, -, H⟩
  iexists f
  iexact H

theorem slots_split (M : Slots) : iprop(∃ X, owns (c : Thread nD τ) M fullShare X) ⊢ (every (someSlot c M) : sProp 𝕄) := by
  iintro ⟨%X, H⟩
  iapply ((owns_rects (c : Thread nD τ) M fullShare slotR (fun _ _ => rfl) slots_disjoint slots_cover X).trans
    (bigSep_mono fun j _ => show _ ⊢ someSlot c M j by
      iintro H
      iexists _
      iexact H))
  iexact H

theorem rows_split (M : Rows) : iprop(∃ X, owns (c : Thread nD τ) M fullShare X) ⊢ (every (someRow c M) : sProp 𝕄) := by
  iintro ⟨%X, H⟩
  iapply ((owns_rects (c : Thread nD τ) M fullShare rowR (fun _ _ => rfl) rows_disjoint rows_cover X).trans
    (bigSep_mono fun j _ => show _ ⊢ someRow c M j by
      iintro H
      iexists _
      iexact H))
  iexact H

theorem out_split : (someBuf c main_v1 : sProp 𝕄) ⊢ bigSep Finset.univ fun k : Fin 4 × Fin 8 => someOut c k.1 k.2 := by
  iintro H
  ihave H' := (someBuf_owns (F := F) c main_v1) $$ H
  icases H' with ⟨%X, H⟩
  iapply ((owns_rects (c : Thread nD τ) outHbm fullShare (fun k : Fin 4 × Fin 8 => outR c k.1 k.2) (fun _ _ => rfl) (outs_disjoint c) (outs_cover c) X).trans
    (bigSep_mono fun k _ => show _ ⊢ someOut c k.1 k.2 by
      iintro H
      iexists _
      iexact H))
  iexact H

section Join
variable [∀ e, Nonempty (Elt F e)]

theorem slots_join (M : Slots) : (every (someSlot c M) : sProp 𝕄) ⊢ iprop(∃ X, owns (c : Thread nD τ) M fullShare X) := by
  iintro H
  ihave H' := (BI.bigSep_exists_pi Finset.univ (fun (j : Fin 8) (w : S1x32x1024.Idx → Elt F .bf16) => (owns (c : Thread nD τ) (slotM M j) fullShare w : sProp 𝕄))) $$ H
  icases H' with ⟨%w, H⟩
  ihave H' := (pieces_join (c : Thread nD τ) M fullShare slotR (fun _ _ => rfl) slots_disjoint slots_cover w) $$ H
  icases H' with ⟨%g, -, H⟩
  unfold owns
  iexists _, g
  isplitr; · ipureintro; rfl
  iexact H

theorem rows_join (M : Rows) : (every (someRow c M) : sProp 𝕄) ⊢ iprop(∃ X, owns (c : Thread nD τ) M fullShare X) := by
  iintro H
  ihave H' := (BI.bigSep_exists_pi Finset.univ (fun (j : Fin 8) (w : S32x1024.Idx → Elt F .f32) => (owns (c : Thread nD τ) (rowM M j) fullShare w : sProp 𝕄))) $$ H
  icases H' with ⟨%w, H⟩
  ihave H' := (pieces_join (c : Thread nD τ) M fullShare rowR (fun _ _ => rfl) rows_disjoint rows_cover w) $$ H
  icases H' with ⟨%g, -, H⟩
  unfold owns
  iexists _, g
  isplitr; · ipureintro; rfl
  iexact H

/-- The result's contents once every write-back has landed. -/
def outIs (f : Buf (Elt F) ((c : Thread nD τ).loc main_v1)) : Prop :=
  ∀ (k : Fin 4 × Fin 8) (i : (outR c k.1 k.2).shape.Idx), f ((outR c k.1 k.2).emb i) = outW m k.1 c k.2 i

theorem out_join : (bigSep Finset.univ fun k : Fin 4 × Fin 8 => (owns (c : Thread nD τ) (outM c k.1 k.2) fullShare (outW m k.1 c k.2) : sProp 𝕄))
    ⊢ iprop(∃ f, ⌜outIs m c f⌝ ∗ ((c : Thread nD τ).loc main_v1) ↦{fullShare} f) := by
  iintro H
  ihave H' := (pieces_join (c : Thread nD τ) outHbm fullShare (fun k : Fin 4 × Fin 8 => outR c k.1 k.2) (fun _ _ => rfl)
    (outs_disjoint c) (outs_cover c) (fun k => outW m k.1 c k.2)) $$ H
  icases H' with ⟨%g, %hg, H⟩
  iexists g
  isplitr; · ipureintro; exact hg
  iapply (show ((outHbm : Memref sig .tc .hbm S1024x1024 .f32).view.loc (c : Thread nD τ) ↦[outHbm.view.set]{fullShare} g)
    ⊢ (((c : Thread nD τ).loc main_v1) ↦{fullShare} g : sProp 𝕄) from Entails.of_eq (by rw [View.set_whole]))
  iexact H

end Join

/-! ## The landing slots, dealt by axis -/

/-- A family dealt out by axis. -/
theorem deal {I : Type} [Fintype I] [DecidableEq I] (f : I → Fin 3) (Φ : I → sProp (MT nD τ sig Unit (Elt F) ℕ UU ℕ)) :
    bigSep Finset.univ Φ = bigSep Finset.univ fun a => bigSep Finset.univ fun i => if f i = a then Φ i else iprop(emp) := by
  rw [bigSep_univ_comm (fun (a : Fin 3) (i : I) => if f i = a then Φ i else iprop(emp))]
  refine bigSep_congr fun i _ => ?_
  have h : bigSep (Finset.univ.erase (f i)) (fun a => if f i = a then Φ i else iprop(emp)) = BI.emp :=
    (bigSep_congr (Ψ := fun _ => BI.emp) fun a ha => if_neg fun h => (Finset.mem_erase.mp ha).1 h.symm).trans (BI.bigSep_emp_const _)
  rw [bigSep_univ_at _ (f i), if_pos rfl, h]
  exact (BI.equiv_iff.mp BI.sep_emp).symm

/-- The landing slots this device lends to its neighbour along each axis, and those its peers lend to it. -/
theorem lend : (bigSep Finset.univ fun p : Fin 4 × Fin 8 => someSlot c (landB p.1) p.2 : sProp 𝕄)
    ⊢ bigSep Finset.univ fun a : Fin 3 => barPay (nbr a c) a := by
  rw [deal (fun p : Fin 4 × Fin 8 => axis p.1 p.2)]
  refine bigSep_mono fun a _ => ?_
  unfold barPay
  rw [nbr_nbr]
  exact BI.Entails.refl _

theorem borrow : (bigSep Finset.univ fun a : Fin 3 => (barPay c a : sProp 𝕄))
    ⊢ bigSep Finset.univ fun p : Fin 4 × Fin 8 => someSlot (peer p.1 p.2 c) (landB p.1) p.2 := by
  rw [deal (fun p : Fin 4 × Fin 8 => axis p.1 p.2)]
  refine bigSep_mono fun a _ => ?_
  unfold barPay
  refine bigSep_mono fun p _ => ?_
  by_cases h : axis p.1 p.2 = a
  · rw [if_pos h, if_pos h, ← h]
    exact BI.Entails.refl _
  · rw [if_neg h, if_neg h]
    exact BI.Entails.refl _

theorem fin3 (Φ : Fin 3 → sProp (MT nD τ sig Unit (Elt F) ℕ UU ℕ)) : bigSep Finset.univ Φ = iprop(Φ 0 ∗ Φ 1 ∗ Φ 2) :=
  bigSep_univ_eq_bigSepL [0, 1, 2] (by decide) (by decide) Φ
theorem fin4 (Φ : Fin 4 → sProp (MT nD τ sig Unit (Elt F) ℕ UU ℕ)) : bigSep Finset.univ Φ = iprop(Φ 0 ∗ Φ 1 ∗ Φ 2 ∗ Φ 3) :=
  bigSep_univ_eq_bigSepL [0, 1, 2, 3] (by decide) (by decide) Φ
/-- Over four channels of eight chunks. -/
theorem fin4x8 (Φ : Fin 4 × Fin 8 → sProp (MT nD τ sig Unit (Elt F) ℕ UU ℕ)) :
    bigSep Finset.univ Φ = iprop((every fun j => Φ (0, j)) ∗ (every fun j => Φ (1, j)) ∗ (every fun j => Φ (2, j)) ∗ (every fun j => Φ (3, j))) := by
  rw [bigSep_univ_prod, fin4]

/-! ## The entry handshake -/

/-- One signal of the handshake: to the neighbour along axis `a`, lending it the landing slots it fills. -/
theorem wp_signal {Q : PUnit → sProp 𝕄} (a : Fin 3) (O : CellTallies nD τ sig Unit) :
    iprop(ctx m K ∗ owesX c (O + tallyAt (kcell (nbr a c, kBar)) () 1) ∗ duty (nbr a c) kBar a ∗ barPay (nbr a c) a)
      ⊢ iprop((owesX c O -∗ Q ⟨⟩) -∗ WP c (semSignalWord (barDev c a) barS 1#32) Q) := by
  rw [barDev_eq]
  simp only [semSignalWord, Prog.lift, Prog.bind_op, Prog.bind_ret, Prog.pure_eq_ret]
  unfold owesX
  iintro ⟨#HC, ⟨%W, HO⟩, Ht, Hp⟩
  iintro Hk
  ihave #HI := (ctx_inv m K (nbr a c, kBar)) $$ HC
  ihave #HR := (ctx_reached m K (nbr a c, kBar)) $$ HC
  iapply (Rounds.wp_signal 𝒱₀ ER (sched m) (c : Thread nD τ) none (dst := (nbr a c : Thread nD τ)) (κ := K (nbr a c, kBar)) (sem := barS) (r := 0) (d := a)
      (by rw [show (((nbr a c : Thread nD τ), .reg barS) : GSem nD τ sig) = kcell (nbr a c, kBar) from rfl, duties_k]; exact Finset.mem_univ _)
      ((amount_k m (nbr a c) kBar a).trans (by decide)) () O rfl) $$ [HO Ht Hp]
  · isplitr; · iexact HI
    isplitl [HO]; · iexact HO
    isplitl [Ht]; · iexact Ht
    isplitl [Hp]
    · iapply (show barPay (nbr a c) a ⊢ (sched m).payload ((nbr a c : Thread nD τ), .reg barS) 0 a from
        Entails.of_eq (payload_k m (nbr a c) kBar a).symm)
      iexact Hp
    iexact HR
  iintro HO
  rw [wp_ret]
  imodintro
  iapply Hk
  iexists _; iexact HO

/-- The handshake: it lends this device's landing slots and borrows its peers'. -/
theorem wp_enter {Q : PUnit → sProp 𝕄} :
    iprop(ctx m K ∗ owesX c (owed₀ c) ∗ pos0 c kBar ∗ cred (tallyAt (kcell (c, kBar)) () 3)
        ∗ (bigSep Finset.univ fun a : Fin 3 => duty (nbr a c) kBar a) ∗ (bigSep Finset.univ fun p : Fin 4 × Fin 8 => someSlot c (landB p.1) p.2))
      ⊢ iprop(((owesX c (dueAll c) ∗ pos1 c kBar ∗ (bigSep Finset.univ fun p : Fin 4 × Fin 8 => someSlot (peer p.1 p.2 c) (landB p.1) p.2)) -∗ Q ⟨⟩)
          -∗ WP c (enter c) Q) := by
  unfold enter
  iintro ⟨#HC, HO, Hat, Hc, Ht, Hl⟩
  iintro Hk
  ihave Hl := (lend (F := F) c) $$ Hl
  icases (Entails.of_eq (fin3 _)) $$ Ht with ⟨Ht0, Ht1, Ht2⟩
  icases (Entails.of_eq (fin3 _)) $$ Hl with ⟨Hl0, Hl1, Hl2⟩
  unfold owed₀
  rw [WP_bind]
  iapply (wp_signal m K c 0 _) $$ [HO Ht0 Hl0]
  · isplitr; · iexact HC
    isplitl [HO]; · iexact HO
    isplitl [Ht0]; · iexact Ht0
    iexact Hl0
  iintro HO
  rw [WP_bind]
  iapply (wp_signal m K c 1 _) $$ [HO Ht1 Hl1]
  · isplitr; · iexact HC
    isplitl [HO]; · iexact HO
    isplitl [Ht1]; · iexact Ht1
    iexact Hl1
  iintro HO
  rw [WP_bind]
  iapply (wp_signal m K c 2 _) $$ [HO Ht2 Hl2]
  · isplitr; · iexact HC
    isplitl [HO]; · iexact HO
    isplitl [Ht2]; · iexact Ht2
    iexact Hl2
  iintro HO
  simp only [semWaitWord, Prog.lift, Prog.bind_op, Prog.bind_ret, Prog.pure_eq_ret]
  unfold owesX
  icases HO with ⟨%W, HO⟩
  ihave #HI := (ctx_inv m K (c, kBar)) $$ HC
  have hL : ctx (F := F) m K ⊢ MayWait (c : Thread nD τ) (.reg barS) () (dueAll c) := ctx_mayWait m K c kBar _ (above_dueAll c)
  iapply (Rounds.wp_wait_rest_token 𝒱₀ ER (sched m) (c : Thread nD τ) none (κ := K (c, kBar)) (sm := .reg barS)
      (wpE_semWait_eq 𝒱₀ (c : Thread nD τ) none Set.univ) (Set.mem_univ _) () (O := dueAll c) (W := W) (R := 0) (m := 0) (T := ∅)
      (by rw [Nat.zero_add]; exact (by decide : (3#32 : BitVec 32).toNat = 3).trans (expect_bar m c).symm)) $$ [Hc HO Hat]
  · isplitr; · iexact HI
    isplitl [Hc]; · iexact Hc
    isplitl [HO]; · iexact HO
    isplitr; · iapply hL; iexact HC
    iexact Hat
  iintro ⟨HO, Hat, -, Hpay⟩
  ihave Hp := (show (bigSep ((sched (F := F) m).duties ((c : Thread nD τ), .reg barS) 0 \ ∅) fun d => (sched (F := F) m).payload ((c : Thread nD τ), .reg barS) 0 d)
    ⊢ bigSep Finset.univ (fun p : Fin 4 × Fin 8 => someSlot (peer p.1 p.2 c) (landB p.1) p.2) from (Entails.of_eq (rest_bar m c)).trans (borrow c)) $$ Hpay
  rw [wp_ret]
  imodintro
  iapply Hk
  isplitl [HO]; · iexists _; iexact HO
  isplitl [Hat]; · iexact Hat
  iexact Hp

/-! ## The input copies -/

/-- What the input copies leave of the arguments while they are in flight. -/
def inpRest : sProp 𝕄 :=
  iprop(((c : Thread nD τ).loc main_arg0 ↦[Finset.univ \ (pnSrc c).view.set]{fullShare.left} arg0 m c)
    ∗ ((c : Thread nD τ).loc main_arg0 ↦[Finset.univ \ (pSrc c).view.set]{fullShare.right} arg0 m c)
    ∗ ((c : Thread nD τ).loc main_arg1 ↦[Finset.univ \ (rSrc c).view.set]{fullShare} arg1 m c))

/-- The arguments, whole. -/
def inpArgs : sProp 𝕄 :=
  iprop((((c : Thread nD τ).loc main_arg0) ↦{fullShare} arg0 m c) ∗ (((c : Thread nD τ).loc main_arg1) ↦{fullShare} arg1 m c))

/-- Part of a buffer and the rest of it. -/
theorem part_rest (ℓ : Loc nD τ sig) (S : Finset ℓ.ty.shape.Idx) (q : PosShare TreeShare) (f : Buf (Elt F) ℓ) :
    ((ℓ ↦{q} f : sProp 𝕄) ⊣⊢ iprop((ℓ ↦[S]{q} f) ∗ (ℓ ↦[Finset.univ \ S]{q} f))) :=
  pointsTo_split_subset (Finset.subset_univ S)

theorem args_split : inpArgs m c ⊢ iprop((((c : Thread nD τ).loc main_arg0 ↦[(pnSrc c).view.set]{fullShare.left} arg0 m c)
    ∗ ((c : Thread nD τ).loc main_arg0 ↦[(pSrc c).view.set]{fullShare.right} arg0 m c)
    ∗ ((c : Thread nD τ).loc main_arg1 ↦[(rSrc c).view.set]{fullShare} arg1 m c)) ∗ inpRest m c) := by
  unfold inpArgs inpRest
  iintro ⟨H0, H1⟩
  icases (pointsTo_share (PosShare.mem_left_op_right fullShare)).1 $$ H0 with ⟨Hl, Hr⟩
  icases (part_rest ((c : Thread nD τ).loc main_arg0) (pnSrc c).view.set fullShare.left (arg0 m c)).1 $$ Hl with ⟨Hl, Hl'⟩
  icases (part_rest ((c : Thread nD τ).loc main_arg0) (pSrc c).view.set fullShare.right (arg0 m c)).1 $$ Hr with ⟨Hr, Hr'⟩
  icases (part_rest ((c : Thread nD τ).loc main_arg1) (rSrc c).view.set fullShare (arg1 m c)).1 $$ H1 with ⟨H1, H1'⟩
  isplitl [Hl Hr H1]
  · isplitl [Hl]; · iexact Hl
    isplitl [Hr]; · iexact Hr
    iexact H1
  isplitl [Hl']; · iexact Hl'
  isplitl [Hr']; · iexact Hr'
  iexact H1'

theorem args_join : iprop((((c : Thread nD τ).loc main_arg0 ↦[(pnSrc c).view.set]{fullShare.left} arg0 m c)
    ∗ ((c : Thread nD τ).loc main_arg0 ↦[(pSrc c).view.set]{fullShare.right} arg0 m c)
    ∗ ((c : Thread nD τ).loc main_arg1 ↦[(rSrc c).view.set]{fullShare} arg1 m c)) ∗ inpRest m c) ⊢ inpArgs m c := by
  unfold inpArgs inpRest
  iintro ⟨⟨Hl, Hr, H1⟩, Hl', Hr', H1'⟩
  ihave Hl := (part_rest ((c : Thread nD τ).loc main_arg0) (pnSrc c).view.set fullShare.left (arg0 m c)).2 $$ [Hl Hl']
  · isplitl [Hl]; · iexact Hl
    iexact Hl'
  ihave Hr := (part_rest ((c : Thread nD τ).loc main_arg0) (pSrc c).view.set fullShare.right (arg0 m c)).2 $$ [Hr Hr']
  · isplitl [Hr]; · iexact Hr
    iexact Hr'
  isplitl [Hl Hr]
  · iapply (pointsTo_share (PosShare.mem_left_op_right fullShare)).2
    isplitl [Hl]; · iexact Hl
    iexact Hr
  iapply (part_rest ((c : Thread nD τ).loc main_arg1) (rSrc c).view.set fullShare (arg1 m c)).2
  isplitl [H1]; · iexact H1
  iexact H1'

/-- Starting the three input copies. -/
theorem wp_fetch {Q : PUnit → sProp 𝕄} :
    iprop(ctx m K ∗ inpArgs m c ∗ (∃ X, owns (c : Thread nD τ) pnM fullShare X) ∗ (∃ X, owns (c : Thread nD τ) pM fullShare X)
        ∗ (∃ X, owns (c : Thread nD τ) rM fullShare X) ∗ (bigSep Finset.univ fun i : Fin 3 => duty c (kInp i) 0))
      ⊢ iprop((((bigSep Finset.univ fun i : Fin 3 => crd c (kInp i)) ∗ inpRest m c) -∗ Q ⟨⟩) -∗ WP c (fetch c) Q) := by
  rw [fin3, fin3]
  unfold fetch
  iintro ⟨#HC, HA, H0, H1, H2, Ht0, Ht1, Ht2⟩
  iintro Hk
  icases (args_split m c) $$ HA with ⟨⟨Hl, Hr, Ha⟩, Hrest⟩
  rw [WP_bind]
  iapply (wp_copyTo m K c (.inl 0) (pnSrc c) pnM _ _ _ rfl fullShare.left (arg0 m c) .rfl) $$ [Hl H0 Ht0]
  · isplitr; · iexact HC
    isplitl [Hl]; · iexact Hl
    isplitl [H0]; · iexact H0
    iexact Ht0
  iintro Hc0
  rw [WP_bind]
  iapply (wp_copyTo m K c (.inl 1) (pSrc c) pM _ _ _ rfl fullShare.right (arg0 m c) .rfl) $$ [Hr H1 Ht1]
  · isplitr; · iexact HC
    isplitl [Hr]; · iexact Hr
    isplitl [H1]; · iexact H1
    iexact Ht1
  iintro Hc1
  iapply (wp_copyTo m K c (.inl 2) (rSrc c) rM _ _ _ rfl fullShare (arg1 m c) .rfl) $$ [Ha H2 Ht2]
  · isplitr; · iexact HC
    isplitl [Ha]; · iexact Ha
    isplitl [H2]; · iexact H2
    iexact Ht2
  iintro Hc2
  iapply Hk
  isplitr [Hrest]
  · isplitl [Hc0]; · iexact Hc0
    isplitl [Hc1]; · iexact Hc1
    iexact Hc2
  iexact Hrest

end Cert.RmsSum

end
-- ==== Proof.Body.lean ====
/-
The body on one device: the handshake, the input copies and the stages one after the other, from all its
parts to what the last wait leaves.
-/
module

public import proofs.«01_k».proof.Proof.Buffers

@[expose] public section

noncomputable section

namespace Cert.RmsSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ) (c : Dev nD)

/-! ## The stages, part by part -/

/-- The positions and credits with which a device waits for channel `h`'s landings. -/
def rcvRes (h : Fin 4) : sProp 𝕄 := every fun j => iprop(pos0 c (kRcv h j) ∗ crd c (kRcv h j))
/-- The duties of sending on channel `h`. -/
def sendDuties (h : Fin 4) : sProp 𝕄 := every fun j => iprop(duty c (kSnd h j) 0 ∗ duty (peer h j c) (kRcv h j) 0)

theorem every_sendRes (h : Fin 4) :
    iprop((every fun j => someSlot (peer h j c) (landB h) j) ∗ sendDuties c h) ⊢ (every (sendRes c h) : sProp 𝕄) := by
  unfold sendDuties
  rw [← bigSep_sep']
  exact BI.Entails.refl _

theorem every_preC : iprop(rcvRes c 0 ∗ every (someRow c ovM) ∗ every (someSlot c obM) ∗ every (sendRes c 2) ∗ every (sendRes c 1) ∗ every (wbRes c 0))
    ⊢ (every (preC c) : sProp 𝕄) := by
  unfold rcvRes
  rw [← bigSep_sep', ← bigSep_sep', ← bigSep_sep', ← bigSep_sep', ← bigSep_sep']
  exact BI.Entails.refl _

theorem every_postC : (every (postC c) : sProp 𝕄) ⊢ iprop((every fun j => pos1 c (kRcv 0 j)) ∗ every (someSlot c xcM)
    ∗ (every fun j => crd c (kSnd 2 j)) ∗ (every fun j => crd c (kSnd 1 j)) ∗ (every fun j => crd c (kWb 0 j))) := by
  rw [← bigSep_sep', ← bigSep_sep', ← bigSep_sep', ← bigSep_sep']
  exact BI.Entails.refl _

theorem every_preD : iprop(rcvRes c 2 ∗ every (sendRes c 3) ∗ every (someRow c q2M) ∗ every (wbRes c 1)) ⊢ (every (preD c) : sProp 𝕄) := by
  unfold rcvRes
  rw [← bigSep_sep', ← bigSep_sep', ← bigSep_sep']
  exact BI.Entails.refl _

theorem every_postD : (every (postD m c) : sProp 𝕄) ⊢ iprop((every fun j => pos1 c (kRcv 2 j))
    ∗ (every fun j => owns (c : Thread nD τ) (slotM ziM j) fullShare.right (gotW m 2 c j))
    ∗ (every fun j => crd c (kSnd 3 j)) ∗ (every fun j => crd c (kWb 1 j))) := by
  rw [← bigSep_sep', ← bigSep_sep', ← bigSep_sep']
  exact BI.Entails.refl _

theorem every_preE (h g : Fin 4) : iprop(rcvRes c h ∗ every (someRow c (wbB g)) ∗ every (wbRes c g)) ⊢ (every (preE c h g) : sProp 𝕄) := by
  unfold rcvRes
  rw [← bigSep_sep', ← bigSep_sep']
  exact BI.Entails.refl _

theorem every_postE (h g : Fin 4) : (every (postE c h g) : sProp 𝕄) ⊢ iprop((every fun j => pos1 c (kRcv h j)) ∗ every (someSlot c (landB h))
    ∗ (every fun j => crd c (kWb g j))) := by
  rw [← bigSep_sep', ← bigSep_sep']
  exact BI.Entails.refl _

theorem every_preS (h : Fin 4) : iprop((every fun j => pos0 c (kSnd h j)) ∗ (every fun j => crd c (kSnd h j))) ⊢ (every (preS c h) : sProp 𝕄) := by
  rw [← bigSep_sep']
  exact BI.Entails.refl _

theorem every_postS (h : Fin 4) : (every (postS m c h) : sProp 𝕄) ⊢ iprop((every fun j => pos1 c (kSnd h j)) ∗ every (sndPay m c h)) := by
  rw [← bigSep_sep']
  exact BI.Entails.refl _

theorem every_preW (g : Fin 4) : iprop((every fun j => pos0 c (kWb g j)) ∗ (every fun j => crd c (kWb g j))) ⊢ (every (preW c g) : sProp 𝕄) := by
  rw [← bigSep_sep']
  exact BI.Entails.refl _

theorem every_postW (g : Fin 4) : (every (postW m c g) : sProp 𝕄) ⊢ iprop((every fun j => pos1 c (kWb g j)) ∗ every (wbPay m c g)) := by
  rw [← bigSep_sep']
  exact BI.Entails.refl _

/-! ## The stages over all chunks -/

theorem wp_A {Q : PUnit → sProp 𝕄} :
    iprop(ctx m K ∗ owesX c (dueAll c) ∗ owns (c : Thread nD τ) pnM fullShare (pnW m c) ∗ every (someSlot c pbM) ∗ every (sendRes c 0))
      ⊢ iprop(((owesX c (due c 3 all8 + due c 1 all8 + due c 2 all8) ∗ owns (c : Thread nD τ) pnM fullShare (pnW m c) ∗ (every fun j => crd c (kSnd 0 j))) -∗ Q ⟨⟩)
          -∗ WP c (eachOf (stepA c) all8) Q) := by
  iintro ⟨#HC, HO, Hp, Hb, HR⟩
  iintro Hk
  iapply (wp_stage m K c (stepA c) (stA m c) (fun j => iprop(someSlot c pbM j ∗ sendRes c 0 j)) (fun j => crd c (kSnd 0 j)) (step_A m K c)) $$ [HO Hp Hb HR]
  · isplitr; · iexact HC
    isplitl [HO Hp]
    · unfold stA
      isplitl [HO]; · iexact HO
      iexact Hp
    iapply (Entails.of_eq (bigSep_sep' Finset.univ (fun j => someSlot c pbM j) (fun j => sendRes c 0 j)).symm)
    isplitl [Hb]; · iexact Hb
    iexact HR
  unfold stA
  iintro ⟨⟨HO, Hp⟩, Hc⟩
  iapply Hk
  isplitl [HO]
  · iapply (Entails.of_eq (congrArg (owesX c) (show due c 3 all8 + due c 1 all8 + due c 2 all8 + due c 0 [] = due c 3 all8 + due c 1 all8 + due c 2 all8 from add_zero _)))
    iexact HO
  isplitl [Hp]; · iexact Hp
  iexact Hc

theorem wp_C {Q : PUnit → sProp 𝕄} :
    iprop(ctx m K ∗ (owesX c (due c 3 all8 + due c 1 all8 + due c 2 all8) ∗ owns (c : Thread nD τ) pM fullShare (pW m c)
        ∗ owns (c : Thread nD τ) rM fullShare (rW m c) ∗ owns (c : Thread nD τ) gamM fullShare (gamW m c)) ∗ every (preC c))
      ⊢ iprop((((owesX c (due c 3 all8) ∗ owns (c : Thread nD τ) pM fullShare (pW m c)
        ∗ owns (c : Thread nD τ) rM fullShare (rW m c) ∗ owns (c : Thread nD τ) gamM fullShare (gamW m c)) ∗ every (postC c)) -∗ Q ⟨⟩)
          -∗ WP c (eachOf (stepC c) all8) Q) := by
  have h := wp_stage m K c (Q := Q) (stepC c) (stC m c) (preC c) (postC c) (step_C m K c)
  unfold stC at h
  rw [show due c 3 all8 + due c 1 [] + due c 2 [] = due c 3 all8 from (add_zero _).trans (add_zero _)] at h
  exact h

/-- Four families side by side. -/
theorem every_four (Φ₁ Φ₂ Φ₃ Φ₄ : Fin 8 → sProp 𝕄) :
    (every fun j => iprop(Φ₁ j ∗ Φ₂ j ∗ Φ₃ j ∗ Φ₄ j)) = iprop(every Φ₁ ∗ every Φ₂ ∗ every Φ₃ ∗ every Φ₄) :=
  (bigSep_sep' _ _ _).trans (congrArg _ ((bigSep_sep' _ _ _).trans (congrArg _ (bigSep_sep' _ _ _))))

/-- Waiting for all sends. -/
theorem wp_G {Q : PUnit → sProp 𝕄} :
    iprop(ctx m K ∗ owesX c 0 ∗ every (preS c 0) ∗ every (preS c 1) ∗ every (preS c 2) ∗ every (preS c 3))
      ⊢ iprop(((owesX c 0 ∗ every (postS m c 0) ∗ every (postS m c 1) ∗ every (postS m c 2) ∗ every (postS m c 3)) -∗ Q ⟨⟩)
          -∗ WP c (eachOf stepG all8) Q) := by
  have h := wp_stage m K c (Q := Q) stepG (fun _ => owesX c 0) (fun j => iprop(preS c 0 j ∗ preS c 1 j ∗ preS c 2 j ∗ preS c 3 j))
    (fun j => iprop(postS m c 0 j ∗ postS m c 1 j ∗ postS m c 2 j ∗ postS m c 3 j)) (fun j _ => step_G m K c j)
  rw [every_four, every_four] at h
  exact h

/-- Waiting for the write-backs of one kind. -/
theorem wp_H {Q : PUnit → sProp 𝕄} (g : Fin 4) :
    iprop(ctx m K ∗ owesX c 0 ∗ (every fun j => pos0 c (kWb g j)) ∗ (every fun j => crd c (kWb g j)))
      ⊢ iprop(((owesX c 0 ∗ (every fun j => pos1 c (kWb g j)) ∗ every (wbPay m c g)) -∗ Q ⟨⟩) -∗ WP c (eachOf (stepH c g) all8) Q) := by
  have h := wp_stage m K c (Q := Q) (stepH c g) (fun _ => owesX c 0) (preW c g) (postW m c g) (fun j _ => step_H m K c g j)
  exact (sep_mono_right (sep_mono_right (every_preW c g))).trans (h.trans (wand_mono (wand_mono (sep_mono_right (every_postW m c g)) .rfl) .rfl))

/-! ## The body -/

/-- What the body starts from, beside the invariants and what it owes: the handshake's part, the arguments and
    the inputs' buffers, the positions, duties and credits, and the buffers chunk by chunk. -/
def bodyIn : sProp 𝕄 :=
  iprop((pos0 c kBar ∗ cred (tallyAt (kcell (c, kBar)) () 3) ∗ (bigSep Finset.univ fun a : Fin 3 => duty (nbr a c) kBar a))
    ∗ (bigSep Finset.univ fun p : Fin 4 × Fin 8 => someSlot c (landB p.1) p.2)
    ∗ (inpArgs m c ∗ (∃ X, owns (c : Thread nD τ) pnM fullShare X) ∗ (∃ X, owns (c : Thread nD τ) pM fullShare X)
        ∗ (∃ X, owns (c : Thread nD τ) rM fullShare X) ∗ (bigSep Finset.univ fun i : Fin 3 => duty c (kInp i) 0))
    ∗ (bigSep Finset.univ fun i : Fin 3 => pos0 c (kInp i))
    ∗ (sendDuties c 0 ∗ sendDuties c 1 ∗ sendDuties c 2 ∗ sendDuties c 3)
    ∗ (rcvRes c 0 ∗ rcvRes c 1 ∗ rcvRes c 2 ∗ rcvRes c 3)
    ∗ (every (someSlot c pbM) ∗ every (someSlot c obM))
    ∗ (every (someRow c ovM) ∗ every (someRow c q2M) ∗ every (someRow c q3M) ∗ every (someRow c q4M))
    ∗ (every (wbRes c 0) ∗ every (wbRes c 1) ∗ every (wbRes c 2) ∗ every (wbRes c 3))
    ∗ ((every fun j => pos0 c (kSnd 0 j)) ∗ (every fun j => pos0 c (kSnd 1 j)) ∗ (every fun j => pos0 c (kSnd 2 j)) ∗ (every fun j => pos0 c (kSnd 3 j)))
    ∗ ((every fun j => pos0 c (kWb 0 j)) ∗ (every fun j => pos0 c (kWb 1 j)) ∗ (every fun j => pos0 c (kWb 2 j)) ∗ (every fun j => pos0 c (kWb 3 j)))
    ∗ owns (c : Thread nD τ) gamM fullShare (gamW m c))

/-- The positions at the end: every semaphore's round is over. -/
def posEnd : sProp 𝕄 :=
  iprop(pos1 c kBar ∗ (pos1 c (kInp 0) ∗ pos1 c (kInp 1) ∗ pos1 c (kInp 2))
    ∗ ((every fun j => pos1 c (kWb 0 j)) ∗ (every fun j => pos1 c (kWb 1 j)) ∗ (every fun j => pos1 c (kWb 2 j)) ∗ (every fun j => pos1 c (kWb 3 j)))
    ∗ ((every fun j => pos1 c (kSnd 0 j)) ∗ (every fun j => pos1 c (kSnd 1 j)) ∗ (every fun j => pos1 c (kSnd 2 j)) ∗ (every fun j => pos1 c (kSnd 3 j)))
    ∗ ((every fun j => pos1 c (kRcv 0 j)) ∗ (every fun j => pos1 c (kRcv 1 j)) ∗ (every fun j => pos1 c (kRcv 2 j)) ∗ (every fun j => pos1 c (kRcv 3 j))))

/-- The buffers at the end, as the waits returned them. -/
def bufEnd : sProp 𝕄 :=
  iprop(((owns (c : Thread nD τ) pnM fullShare (pnW m c) ∗ ((c : Thread nD τ).loc main_arg0 ↦[(pnSrc c).view.set]{fullShare.left} arg0 m c))
      ∗ (owns (c : Thread nD τ) pM fullShare (pW m c) ∗ ((c : Thread nD τ).loc main_arg0 ↦[(pSrc c).view.set]{fullShare.right} arg0 m c))
      ∗ (owns (c : Thread nD τ) rM fullShare (rW m c) ∗ ((c : Thread nD τ).loc main_arg1 ↦[(rSrc c).view.set]{fullShare} arg1 m c)) ∗ inpRest m c)
    ∗ (every (sndPay m c 0) ∗ every (sndPay m c 1) ∗ every (sndPay m c 2) ∗ every (sndPay m c 3))
    ∗ (every (someSlot c xcM) ∗ every (someSlot c (landB 1)) ∗ (every fun j => owns (c : Thread nD τ) (slotM ziM j) fullShare.right (gotW m 2 c j))
        ∗ every (someSlot c (landB 3)))
    ∗ (every (wbPay m c 0) ∗ every (wbPay m c 1) ∗ every (wbPay m c 2) ∗ every (wbPay m c 3)))

/-- The end of the body: nothing owed, every round over, the buffers returned. -/
def bodyEnd : sProp 𝕄 :=
  iprop(owesX c 0 ∗ posEnd c ∗ bufEnd m c ∗ owns (c : Thread nD τ) gamM fullShare (gamW m c))

/-- The body learns which device it runs on. -/
theorem WP_deviceId {Q : Dev nD → sProp 𝕄} : Q c ⊢ WP c (Prog.lift .deviceId) Q := by
  simp only [Prog.lift, wp_deviceId, wp_ret]
  iintro H
  imodintro
  first | iexact H | (imodintro; iexact H)

set_option maxHeartbeats 1600000 in
/-- The body, stage by stage. -/
theorem wp_body {Q : PUnit → sProp 𝕄} :
    iprop(ctx m K ∗ owesX c (owed₀ c) ∗ bodyIn m c) ⊢ iprop((bodyEnd m c -∗ Q ⟨⟩) -∗ WP c body Q) := by
  unfold bodyIn body
  iintro ⟨#HC, HO, ⟨Hbar, Hcb, Htb⟩, Hland, Hinp, Hpi, ⟨Hsd0, Hsd1, Hsd2, Hsd3⟩, ⟨Hr0, Hr1, Hr2, Hr3⟩, ⟨Hpb, Hob⟩, ⟨Hov, Hq2, Hq3, Hq4⟩,
    ⟨Hw0, Hw1, Hw2, Hw3⟩, ⟨Hps0, Hps1, Hps2, Hps3⟩, ⟨Hpw0, Hpw1, Hpw2, Hpw3⟩, Hg⟩
  iintro Hk
  icases (Entails.of_eq (fin3 _)) $$ Hpi with ⟨Hpi0, Hpi1, Hpi2⟩
  rw [WP_bind]
  iapply (WP_deviceId c)
  rw [WP_bind]
  iapply (wp_enter m K c) $$ [HO Hbar Hcb Htb Hland]
  · isplitr; · iexact HC
    isplitl [HO]; · iexact HO
    isplitl [Hbar]; · iexact Hbar
    isplitl [Hcb]; · iexact Hcb
    isplitl [Htb]; · iexact Htb
    iexact Hland
  iintro ⟨HO, Hbar, Hpeer⟩
  icases (Entails.of_eq (fin4x8 _)) $$ Hpeer with ⟨Hp0, Hp1, Hp2, Hp3⟩
  ihave HS0 := (every_sendRes c 0) $$ [Hp0 Hsd0]
  · isplitl [Hp0]; · iexact Hp0
    iexact Hsd0
  ihave HS1 := (every_sendRes c 1) $$ [Hp1 Hsd1]
  · isplitl [Hp1]; · iexact Hp1
    iexact Hsd1
  ihave HS2 := (every_sendRes c 2) $$ [Hp2 Hsd2]
  · isplitl [Hp2]; · iexact Hp2
    iexact Hsd2
  ihave HS3 := (every_sendRes c 3) $$ [Hp3 Hsd3]
  · isplitl [Hp3]; · iexact Hp3
    iexact Hsd3
  rw [WP_bind]
  iapply (wp_fetch m K c) $$ [Hinp]
  · isplitr; · iexact HC
    iexact Hinp
  iintro ⟨Hci, Hrest⟩
  icases (Entails.of_eq (fin3 _)) $$ Hci with ⟨Hci0, Hci1, Hci2⟩
  rw [WP_bind]
  iapply (wp_wait m K c (.inl 0) (dueAll c) (above_weak (Nat.zero_le _) (above_dueAll c)) (pnSrc c) pnM _ _ rfl) $$ [HO Hpi0 Hci0]
  · isplitr; · iexact HC
    isplitl [HO]; · iexact HO
    isplitl [Hpi0]; · iexact Hpi0
    iexact Hci0
  iintro ⟨HO, Hpi0, Hpay⟩
  icases (show payK m c (kInp 0) 0 ⊢ iprop(owns (c : Thread nD τ) pnM fullShare (pnW m c)
    ∗ ((c : Thread nD τ).loc main_arg0 ↦[(pnSrc c).view.set]{fullShare.left} arg0 m c)) from .rfl) $$ Hpay with ⟨Hpn, Hsn⟩
  rw [WP_bind]
  iapply (wp_A m K c) $$ [HO Hpn Hpb HS0]
  · isplitr; · iexact HC
    isplitl [HO]; · iexact HO
    isplitl [Hpn]; · iexact Hpn
    isplitl [Hpb]; · iexact Hpb
    iexact HS0
  iintro ⟨HO, Hpn, Hcs0⟩
  rw [WP_bind]
  iapply (wp_wait m K c (.inl 1) _ (above_weak (n := 2) (Nat.zero_le _) (above_C c all8)) (pSrc c) pM _ _ rfl) $$ [HO Hpi1 Hci1]
  · isplitr; · iexact HC
    isplitl [HO]; · iexact HO
    isplitl [Hpi1]; · iexact Hpi1
    iexact Hci1
  iintro ⟨HO, Hpi1, Hpay⟩
  icases (show payK m c (kInp 1) 0 ⊢ iprop(owns (c : Thread nD τ) pM fullShare (pW m c)
    ∗ ((c : Thread nD τ).loc main_arg0 ↦[(pSrc c).view.set]{fullShare.right} arg0 m c)) from .rfl) $$ Hpay with ⟨Hp, Hsp⟩
  rw [WP_bind]
  iapply (wp_wait m K c (.inl 2) _ (above_weak (n := 2) (Nat.zero_le _) (above_C c all8)) (rSrc c) rM _ _ rfl) $$ [HO Hpi2 Hci2]
  · isplitr; · iexact HC
    isplitl [HO]; · iexact HO
    isplitl [Hpi2]; · iexact Hpi2
    iexact Hci2
  iintro ⟨HO, Hpi2, Hpay⟩
  icases (show payK m c (kInp 2) 0 ⊢ iprop(owns (c : Thread nD τ) rM fullShare (rW m c)
    ∗ ((c : Thread nD τ).loc main_arg1 ↦[(rSrc c).view.set]{fullShare} arg1 m c)) from .rfl) $$ Hpay with ⟨Hr, Hsr⟩
  rw [WP_bind]
  iapply (wp_C m K c) $$ [HO Hp Hr Hg Hr0 Hov Hob HS2 HS1 Hw0]
  · isplitr; · iexact HC
    isplitl [HO Hp Hr Hg]
    · isplitl [HO]; · iexact HO
      isplitl [Hp]; · iexact Hp
      isplitl [Hr]; · iexact Hr
      iexact Hg
    iapply (every_preC c)
    isplitl [Hr0]; · iexact Hr0
    isplitl [Hov]; · iexact Hov
    isplitl [Hob]; · iexact Hob
    isplitl [HS2]; · iexact HS2
    isplitl [HS1]; · iexact HS1
    iexact Hw0
  iintro ⟨⟨HO, Hp, Hr, Hg⟩, Hpost⟩
  icases (every_postC c) $$ Hpost with ⟨Hr0, Hxc, Hcs2, Hcs1, Hcw0⟩
  rw [WP_bind]
  iapply (wp_stage m K c (stepD c) (fun l => owesX c (due c 3 l)) (preD c) (postD m c) (step_D m K c)) $$ [HO Hr2 HS3 Hq2 Hw1]
  · isplitr; · iexact HC
    isplitl [HO]; · iexact HO
    iapply (every_preD c)
    isplitl [Hr2]; · iexact Hr2
    isplitl [HS3]; · iexact HS3
    isplitl [Hq2]; · iexact Hq2
    iexact Hw1
  iintro ⟨HO, Hpost⟩
  icases (every_postD m c) $$ Hpost with ⟨Hr2, Hzi, Hcs3, Hcw1⟩
  ihave HO := (show owesX c (due c 3 []) ⊢ (owesX c 0 : sProp 𝕄) from .rfl) $$ HO
  rw [WP_bind]
  iapply (wp_stage m K c (stepE c 1 2) (fun _ => owesX c 0) (preE c 1 2) (postE c 1 2) (fun j _ => step_E m K c 1 2 (fun _ => rfl) j)) $$ [HO Hr1 Hq3 Hw2]
  · isplitr; · iexact HC
    isplitl [HO]; · iexact HO
    iapply (every_preE c 1 2)
    isplitl [Hr1]; · iexact Hr1
    isplitl [Hq3]; · iexact Hq3
    iexact Hw2
  iintro ⟨HO, Hpost⟩
  icases (every_postE c 1 2) $$ Hpost with ⟨Hr1, Hxy, Hcw2⟩
  rw [WP_bind]
  iapply (wp_stage m K c (stepE c 3 3) (fun _ => owesX c 0) (preE c 3 3) (postE c 3 3) (fun j _ => step_E m K c 3 3 (fun _ => rfl) j)) $$ [HO Hr3 Hq4 Hw3]
  · isplitr; · iexact HC
    isplitl [HO]; · iexact HO
    iapply (every_preE c 3 3)
    isplitl [Hr3]; · iexact Hr3
    isplitl [Hq4]; · iexact Hq4
    iexact Hw3
  iintro ⟨HO, Hpost⟩
  icases (every_postE c 3 3) $$ Hpost with ⟨Hr3, Hyl, Hcw3⟩
  rw [WP_bind]
  iapply (wp_G m K c) $$ [HO Hps0 Hcs0 Hps1 Hcs1 Hps2 Hcs2 Hps3 Hcs3]
  · isplitr; · iexact HC
    isplitl [HO]; · iexact HO
    isplitl [Hps0 Hcs0]
    · iapply (every_preS c 0)
      isplitl [Hps0]; · iexact Hps0
      iexact Hcs0
    isplitl [Hps1 Hcs1]
    · iapply (every_preS c 1)
      isplitl [Hps1]; · iexact Hps1
      iexact Hcs1
    isplitl [Hps2 Hcs2]
    · iapply (every_preS c 2)
      isplitl [Hps2]; · iexact Hps2
      iexact Hcs2
    iapply (every_preS c 3)
    isplitl [Hps3]; · iexact Hps3
    iexact Hcs3
  iintro ⟨HO, HG0, HG1, HG2, HG3⟩
  icases (every_postS m c 0) $$ HG0 with ⟨Hps0, HG0⟩
  icases (every_postS m c 1) $$ HG1 with ⟨Hps1, HG1⟩
  icases (every_postS m c 2) $$ HG2 with ⟨Hps2, HG2⟩
  icases (every_postS m c 3) $$ HG3 with ⟨Hps3, HG3⟩
  rw [WP_bind]
  iapply (wp_H m K c 0) $$ [HO Hpw0 Hcw0]
  · isplitr; · iexact HC
    isplitl [HO]; · iexact HO
    isplitl [Hpw0]; · iexact Hpw0
    iexact Hcw0
  iintro ⟨HO, Hpw0, HW0⟩
  rw [WP_bind]
  iapply (wp_H m K c 1) $$ [HO Hpw1 Hcw1]
  · isplitr; · iexact HC
    isplitl [HO]; · iexact HO
    isplitl [Hpw1]; · iexact Hpw1
    iexact Hcw1
  iintro ⟨HO, Hpw1, HW1⟩
  rw [WP_bind]
  iapply (wp_H m K c 2) $$ [HO Hpw2 Hcw2]
  · isplitr; · iexact HC
    isplitl [HO]; · iexact HO
    isplitl [Hpw2]; · iexact Hpw2
    iexact Hcw2
  iintro ⟨HO, Hpw2, HW2⟩
  iapply (wp_H m K c 3) $$ [HO Hpw3 Hcw3]
  · isplitr; · iexact HC
    isplitl [HO]; · iexact HO
    isplitl [Hpw3]; · iexact Hpw3
    iexact Hcw3
  iintro ⟨HO, Hpw3, HW3⟩
  iapply Hk
  unfold bodyEnd posEnd bufEnd
  isplitl [HO]; · iexact HO
  isplitl [Hbar Hpi0 Hpi1 Hpi2 Hpw0 Hpw1 Hpw2 Hpw3 Hps0 Hps1 Hps2 Hps3 Hr0 Hr1 Hr2 Hr3]
  · isplitl [Hbar]; · iexact Hbar
    isplitl [Hpi0 Hpi1 Hpi2]
    · isplitl [Hpi0]; · iexact Hpi0
      isplitl [Hpi1]; · iexact Hpi1
      iexact Hpi2
    isplitl [Hpw0 Hpw1 Hpw2 Hpw3]
    · isplitl [Hpw0]; · iexact Hpw0
      isplitl [Hpw1]; · iexact Hpw1
      isplitl [Hpw2]; · iexact Hpw2
      iexact Hpw3
    isplitl [Hps0 Hps1 Hps2 Hps3]
    · isplitl [Hps0]; · iexact Hps0
      isplitl [Hps1]; · iexact Hps1
      isplitl [Hps2]; · iexact Hps2
      iexact Hps3
    isplitl [Hr0]; · iexact Hr0
    isplitl [Hr1]; · iexact Hr1
    isplitl [Hr2]; · iexact Hr2
    iexact Hr3
  isplitr [Hg]
  · isplitl [Hpn Hsn Hp Hsp Hr Hsr Hrest]
    · isplitl [Hpn Hsn]
      · isplitl [Hpn]; · iexact Hpn
        iexact Hsn
      isplitl [Hp Hsp]
      · isplitl [Hp]; · iexact Hp
        iexact Hsp
      isplitl [Hr Hsr]
      · isplitl [Hr]; · iexact Hr
        iexact Hsr
      iexact Hrest
    isplitl [HG0 HG1 HG2 HG3]
    · isplitl [HG0]; · iexact HG0
      isplitl [HG1]; · iexact HG1
      isplitl [HG2]; · iexact HG2
      iexact HG3
    isplitl [Hxc Hxy Hzi Hyl]
    · isplitl [Hxc]; · iexact Hxc
      isplitl [Hxy]; · iexact Hxy
      isplitl [Hzi]; · iexact Hzi
      iexact Hyl
    isplitl [HW0]; · iexact HW0
    isplitl [HW1]; · iexact HW1
    isplitl [HW2]; · iexact HW2
    iexact HW3
  iexact Hg

end Cert.RmsSum

end
-- ==== Proof.Whole.lean ====
/-
The body from whole buffers to whole buffers: cutting the buffers into chunks before it, joining them and
closing the semaphores after it.
-/
module

public import proofs.«01_k».proof.Proof.Body

@[expose] public section

noncomputable section

namespace Cert.RmsSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ) (c : Dev nD)

/-! ## Something of every semaphore -/

/-- Of the body's own semaphores, kind by kind. -/
theorem okeys_split (Φ : OKey → sProp 𝕄) :
    bigSep Finset.univ Φ = iprop((Φ (.inl 0) ∗ Φ (.inl 1) ∗ Φ (.inl 2))
      ∗ (bigSep Finset.univ fun p : Fin 4 × Fin 8 => Φ (.inr (0, p))) ∗ (bigSep Finset.univ fun p : Fin 4 × Fin 8 => Φ (.inr (1, p)))
      ∗ (bigSep Finset.univ fun p : Fin 4 × Fin 8 => Φ (.inr (2, p)))) := by
  rw [bigSep_univ_sum, bigSep_univ_prod, fin3, fin3]
  rfl

/-- Of all, with the barrier's. -/
theorem keys_split (Φ : Key → sProp 𝕄) : bigSep Finset.univ Φ = iprop(Φ kBar ∗ bigSep Finset.univ fun k : OKey => Φ (.inr k)) := by
  rw [bigSep_univ_sum, bigSep_univ_eq_bigSepL [()] (by decide) (by decide) fun u : Unit => Φ (.inl u)]
  rfl

/-- Every round is over. -/
theorem posEnd_all : posEnd c ⊢ (bigSep Finset.univ fun k : Key => pos1 c k : sProp 𝕄) := by
  rw [keys_split, okeys_split, fin4x8, fin4x8, fin4x8]
  unfold posEnd
  exact BI.Entails.refl _

/-- A semaphore whose round is over closes at zero. -/
theorem close_all : iprop(ctx m K ∗ bigSep Finset.univ fun k : Key => pos1 c k)
    ⊢ (|={Set.univ}=> bigSep Finset.univ fun k : Key => semVal (kcell (c, k)) 0 : sProp 𝕄) := by
  have h (k : Key) : iprop(ctx m K ∗ pos1 c k) ⊢ (|={Set.univ}=> semVal (kcell (c, k)) 0 : sProp 𝕄) := by
    iintro ⟨HC, Hp⟩
    ihave HI := (ctx_inv m K (c, k)) $$ HC
    iapply (Rounds.cell_close ER (sched m) (g := kcell (c, k)) (Set.mem_univ (K (c, k))) (fun h => h) (R := 0 + 1) (duties_later m (kcell (c, k))))
    isplitl [HI]; · iexact HI
    iexact Hp
  exact (sep_mono_left (BI.bigSep_of_persistent Finset.univ (ctx m K))).trans
    ((Entails.of_eq (bigSep_sep' _ _ _).symm).trans ((bigSep_mono fun k _ => h k).trans (bigSep_fupd _ _)))

/-! ## The buffers at the end -/

section Join
variable [∀ e, Nonempty (Elt F e)]

/-- A source whose two shares came back separately. -/
theorem slots_halves (M : Slots) (W : Fin 8 → S1x32x1024.Idx → Elt F .bf16) :
    iprop((every fun j => owns (c : Thread nD τ) (slotM M j) fullShare.left (W j)) ∗ (every fun j => owns (c : Thread nD τ) (slotM M j) fullShare.right (W j)))
      ⊢ (every (someSlot c M) : sProp 𝕄) := by
  rw [← bigSep_sep']
  refine bigSep_mono fun j _ => ?_
  show _ ⊢ someSlot c M j
  iintro H
  ihave H' := (owns_halves (c : Thread nD τ) (slotM M j) fullShare (W j)).2 $$ H
  iexists _
  iexact H'

/-- The scratch buffers, each at some contents. -/
def scratch : sProp 𝕄 :=
  iprop(someBuf c cc0_scratch0 ∗ someBuf c cc0_scratch1 ∗ someBuf c cc0_scratch2 ∗ someBuf c cc0_scratch3 ∗ someBuf c cc0_scratch4 ∗ someBuf c cc0_scratch5
    ∗ someBuf c cc0_scratch6 ∗ someBuf c cc0_scratch7 ∗ someBuf c cc0_scratch8 ∗ someBuf c cc0_scratch9 ∗ someBuf c cc0_scratch10 ∗ someBuf c cc0_scratch11
    ∗ someBuf c cc0_scratch12)

/-- The result at its contents. -/
def outDone : sProp 𝕄 := iprop(∃ f, ⌜outIs m c f⌝ ∗ ((c : Thread nD τ).loc main_v1) ↦{fullShare} f)

/-- A slot buffer and a row buffer from their chunks. -/
theorem slots_buf (b : Ref sig .tc) (M : Slots) (h : iprop(∃ X, owns (c : Thread nD τ) M fullShare X) ⊢ (someBuf c b : sProp 𝕄)) :
    (every (someSlot c M) : sProp 𝕄) ⊢ someBuf c b := (slots_join c M).trans h
theorem rows_buf (b : Ref sig .tc) (M : Rows) (h : iprop(∃ X, owns (c : Thread nD τ) M fullShare X) ⊢ (someBuf c b : sProp 𝕄)) :
    (every (someRow c M) : sProp 𝕄) ⊢ someBuf c b := (rows_join c M).trans h

/-- What write-back `g` returned: its rows of the result and its source. -/
theorem every_wbPay (g : Fin 4) : (every (wbPay m c g) : sProp 𝕄)
    ⊢ iprop((every fun j => owns (c : Thread nD τ) (outM c g j) fullShare (outW m g c j)) ∗ every (someRow c (wbB g))) := by
  refine (Entails.of_eq (bigSep_sep' _ _ _)).trans (sep_mono_right (bigSep_mono fun j _ => ?_))
  show _ ⊢ someRow c (wbB g) j
  iintro H
  iexists _
  iexact H

theorem bufEnd_all : bufEnd m c ⊢ (iprop(scratch c ∗ inpArgs m c ∗ outDone m c) : sProp 𝕄) := by
  unfold bufEnd
  iintro ⟨⟨⟨Hpn, Hsn⟩, ⟨Hp, Hsp⟩, ⟨Hr, Hsr⟩, Hrest⟩, ⟨HG0, HG1, HG2, HG3⟩, ⟨Hxc, Hxy, Hzi, Hyl⟩, HW0, HW1, HW2, HW3⟩
  icases (every_wbPay m c 0) $$ HW0 with ⟨Ho0, Hq0⟩
  icases (every_wbPay m c 1) $$ HW1 with ⟨Ho1, Hq1⟩
  icases (every_wbPay m c 2) $$ HW2 with ⟨Ho2, Hq2⟩
  icases (every_wbPay m c 3) $$ HW3 with ⟨Ho3, Hq3⟩
  isplitl [Hpn Hp Hr HG0 HG1 HG2 HG3 Hxc Hxy Hzi Hyl Hq0 Hq1 Hq2 Hq3]
  · unfold scratch
    isplitl [Hpn]
    · iapply (owns_someBuf (F := F) c cc0_scratch0); iexists _; iexact Hpn
    isplitl [HG0]
    · iapply (slots_buf (F := F) c cc0_scratch1 pbM (owns_someBuf c cc0_scratch1))
      iapply (show (every (sndPay m c 0) : sProp 𝕄) ⊢ every (someSlot c pbM) from bigSep_mono fun j _ => by
        show _ ⊢ someSlot c pbM j
        iintro H
        iexists (sentW m 0 c j)
        iapply (show sndPay m c 0 j ⊢ (owns (c : Thread nD τ) (slotM pbM j) fullShare (sentW m 0 c j) : sProp 𝕄) from .rfl)
        iexact H)
      iexact HG0
    isplitl [Hxc]
    · iapply (slots_buf (F := F) c cc0_scratch2 xcM (owns_someBuf c cc0_scratch2)); iexact Hxc
    isplitl [Hp]
    · iapply (owns_someBuf (F := F) c cc0_scratch3); iexists _; iexact Hp
    isplitl [Hr]
    · iapply (owns_someBuf (F := F) c cc0_scratch4); iexists _; iexact Hr
    isplitl [Hq0]
    · iapply (rows_buf (F := F) c cc0_scratch5 (wbB 0) (owns_someBuf c cc0_scratch5)); iexact Hq0
    isplitl [HG1 HG2]
    · iapply (slots_buf (F := F) c cc0_scratch6 obM (owns_someBuf c cc0_scratch6))
      iapply (slots_halves c obM (obW m c))
      isplitl [HG1]
      · iexact HG1
      iexact HG2
    isplitl [HG3 Hzi]
    · iapply (slots_buf (F := F) c cc0_scratch7 ziM (owns_someBuf c cc0_scratch7))
      iapply (slots_halves c ziM (sentW m 3 c))
      isplitl [HG3]
      · iexact HG3
      iapply (show (every fun j => (owns (c : Thread nD τ) (slotM ziM j) fullShare.right (gotW m 2 c j) : sProp 𝕄))
        ⊢ every fun j => owns (c : Thread nD τ) (slotM ziM j) fullShare.right (sentW m 3 c j) from .rfl)
      iexact Hzi
    isplitl [Hxy]
    · iapply (slots_buf (F := F) c cc0_scratch8 (landB 1) (owns_someBuf c cc0_scratch8)); iexact Hxy
    isplitl [Hyl]
    · iapply (slots_buf (F := F) c cc0_scratch9 (landB 3) (owns_someBuf c cc0_scratch9)); iexact Hyl
    isplitl [Hq1]
    · iapply (rows_buf (F := F) c cc0_scratch10 (wbB 1) (owns_someBuf c cc0_scratch10)); iexact Hq1
    isplitl [Hq2]
    · iapply (rows_buf (F := F) c cc0_scratch11 (wbB 2) (owns_someBuf c cc0_scratch11)); iexact Hq2
    iapply (rows_buf (F := F) c cc0_scratch12 (wbB 3) (owns_someBuf c cc0_scratch12)); iexact Hq3
  isplitl [Hsn Hsp Hsr Hrest]
  · iapply (args_join m c)
    isplitr [Hrest]
    · isplitl [Hsn]; · iexact Hsn
      isplitl [Hsp]; · iexact Hsp
      iexact Hsr
    iexact Hrest
  unfold outDone
  iapply (out_join m c)
  iapply (Entails.of_eq (fin4x8 (F := F) fun k => owns (c : Thread nD τ) (outM c k.1 k.2) fullShare (outW m k.1 c k.2)).symm)
  isplitl [Ho0]; · iexact Ho0
  isplitl [Ho1]; · iexact Ho1
  isplitl [Ho2]; · iexact Ho2
  iexact Ho3

/-! ## The body from whole buffers to whole buffers -/

/-- The protocol's part of what device `c` starts from. -/
def ghost : sProp 𝕄 :=
  iprop((bigSep Finset.univ fun k : Key => pos0 c k)
    ∗ (bigSep Finset.univ fun a : Fin 3 => duty (nbr a c) kBar a) ∗ (bigSep Finset.univ fun i : Fin 3 => duty c (kInp i) 0)
    ∗ (bigSep Finset.univ fun p : Fin 4 × Fin 8 => duty c (kWb p.1 p.2) 0)
    ∗ (bigSep Finset.univ fun p : Fin 4 × Fin 8 => duty c (kSnd p.1 p.2) 0)
    ∗ (bigSep Finset.univ fun p : Fin 4 × Fin 8 => duty (peer p.1 p.2 c) (kRcv p.1 p.2) 0))

/-- What the body starts from: that, the credits for what others owe it, the arguments and the result. -/
def start : sProp 𝕄 :=
  iprop((∃ K, ctx m K ∗ ghost c) ∗ (cred (tallyAt (kcell (c, kBar)) () 3) ∗ (bigSep Finset.univ fun p : Fin 4 × Fin 8 => crd c (kRcv p.1 p.2)))
    ∗ inpArgs m c ∗ someBuf c main_v1)

/-- What the body leaves: the scratch buffers, the semaphores at zero, the arguments unchanged and the result. -/
def finish : sProp 𝕄 :=
  iprop(scratch c ∗ (bigSep Finset.univ fun k : Key => semVal (kcell (c, k)) 0) ∗ inpArgs m c ∗ outDone m c)

/-- The landing buffers chunk by chunk. -/
theorem land_split : iprop(someBuf c cc0_scratch2 ∗ someBuf c cc0_scratch8 ∗ someBuf c cc0_scratch7 ∗ someBuf c cc0_scratch9)
    ⊢ (bigSep Finset.univ fun p : Fin 4 × Fin 8 => someSlot c (landB p.1) p.2 : sProp 𝕄) := by
  iintro ⟨H0, H1, H2, H3⟩
  iapply (Entails.of_eq (fin4x8 (F := F) fun p => someSlot c (landB p.1) p.2).symm)
  isplitl [H0]
  · iapply ((someBuf_owns c cc0_scratch2).trans (slots_split (F := F) c (landB 0))); iexact H0
  isplitl [H1]
  · iapply ((someBuf_owns c cc0_scratch8).trans (slots_split (F := F) c (landB 1))); iexact H1
  isplitl [H2]
  · iapply ((someBuf_owns c cc0_scratch7).trans (slots_split (F := F) c (landB 2))); iexact H2
  iapply ((someBuf_owns c cc0_scratch9).trans (slots_split (F := F) c (landB 3))); iexact H3

/-- Two families over the channels and chunks side by side, channel by channel. -/
theorem chan_pair (Φ Ψ : Fin 4 → Fin 8 → sProp 𝕄) :
    iprop((bigSep Finset.univ fun p : Fin 4 × Fin 8 => Φ p.1 p.2) ∗ (bigSep Finset.univ fun p : Fin 4 × Fin 8 => Ψ p.1 p.2))
      ⊢ iprop((every fun j => iprop(Φ 0 j ∗ Ψ 0 j)) ∗ (every fun j => iprop(Φ 1 j ∗ Ψ 1 j)) ∗ (every fun j => iprop(Φ 2 j ∗ Ψ 2 j)) ∗ (every fun j => iprop(Φ 3 j ∗ Ψ 3 j))) := by
  rw [← bigSep_sep']
  exact Entails.of_eq (fin4x8 fun p => iprop(Φ p.1 p.2 ∗ Ψ p.1 p.2))

/-- All the body's parts from what it starts with. -/
theorem bodyIn_intro : iprop(ghost c ∗ (cred (tallyAt (kcell (c, kBar)) () 3) ∗ (bigSep Finset.univ fun p : Fin 4 × Fin 8 => crd c (kRcv p.1 p.2)))
      ∗ inpArgs m c ∗ someBuf c main_v1 ∗ scratch c ∗ owns (c : Thread nD τ) gamM fullShare (gamW m c))
    ⊢ (bodyIn m c : sProp 𝕄) := by
  unfold ghost scratch bodyIn
  iintro ⟨⟨Hpos, Htb, Hti, Htw, Hts, Htr⟩, ⟨Hcb, Hcr⟩, Hargs, Hout, ⟨H0, H1, H2, H3, H4, H5, H6, H7, H8, H9, H10, H11, H12⟩, Hg⟩
  icases (Entails.of_eq (keys_split (F := F) fun k => pos0 c k)) $$ Hpos with ⟨Hbar, Hpos⟩
  icases (Entails.of_eq (okeys_split (F := F) fun k => pos0 c (.inr k))) $$ Hpos with ⟨Hpi, Hpw, Hps, Hpr⟩
  isplitl [Hbar Hcb Htb]
  · isplitl [Hbar]; · iexact Hbar
    isplitl [Hcb]; · iexact Hcb
    iexact Htb
  isplitl [H2 H7 H8 H9]
  · iapply (land_split (F := F) c)
    isplitl [H2]; · iexact H2
    isplitl [H8]; · iexact H8
    isplitl [H7]; · iexact H7
    iexact H9
  isplitl [Hargs H0 H3 H4 Hti]
  · isplitl [Hargs]; · iexact Hargs
    isplitl [H0]; · iapply (someBuf_owns (F := F) c cc0_scratch0); iexact H0
    isplitl [H3]; · iapply (someBuf_owns (F := F) c cc0_scratch3); iexact H3
    isplitl [H4]; · iapply (someBuf_owns (F := F) c cc0_scratch4); iexact H4
    iexact Hti
  isplitl [Hpi]
  · iapply (Entails.of_eq (fin3 (F := F) fun i => pos0 c (kInp i)).symm); iexact Hpi
  isplitl [Hts Htr]
  · iapply (chan_pair (F := F) (fun h j => duty c (kSnd h j) 0) (fun h j => duty (peer h j c) (kRcv h j) 0))
    isplitl [Hts]; · iexact Hts
    iexact Htr
  isplitl [Hpr Hcr]
  · iapply (chan_pair (F := F) (fun h j => pos0 c (kRcv h j)) (fun h j => crd c (kRcv h j)))
    isplitl [Hpr]; · iexact Hpr
    iexact Hcr
  isplitl [H1 H6]
  · isplitl [H1]
    · iapply ((someBuf_owns c cc0_scratch1).trans (slots_split (F := F) c pbM)); iexact H1
    iapply ((someBuf_owns c cc0_scratch6).trans (slots_split (F := F) c obM)); iexact H6
  isplitl [H5 H10 H11 H12]
  · isplitl [H5]
    · iapply ((someBuf_owns c cc0_scratch5).trans (rows_split (F := F) c ovM)); iexact H5
    isplitl [H10]
    · iapply ((someBuf_owns c cc0_scratch10).trans (rows_split (F := F) c q2M)); iexact H10
    isplitl [H11]
    · iapply ((someBuf_owns c cc0_scratch11).trans (rows_split (F := F) c q3M)); iexact H11
    iapply ((someBuf_owns c cc0_scratch12).trans (rows_split (F := F) c q4M)); iexact H12
  isplitl [Hout Htw]
  · iapply (chan_pair (F := F) (fun g j => someOut c g j) (fun g j => duty c (kWb g j) 0))
    isplitl [Hout]
    · iapply (out_split (F := F) c); iexact Hout
    iexact Htw
  isplitl [Hps]
  · iapply (Entails.of_eq (fin4x8 (F := F) fun p => pos0 c (kSnd p.1 p.2))); iexact Hps
  isplitl [Hpw]
  · iapply (Entails.of_eq (fin4x8 (F := F) fun p => pos0 c (kWb p.1 p.2))); iexact Hpw
  iexact Hg

/-- The body, from what the launch hands it to what it leaves. -/
theorem wp_whole {Q : PUnit → sProp 𝕄} :
    iprop(start m c ∗ scratch c ∗ owesX c (owed₀ c) ∗ owns (c : Thread nD τ) gamM fullShare (gamW m c))
      ⊢ iprop(((finish m c ∗ owesX c 0 ∗ owns (c : Thread nD τ) gamM fullShare (gamW m c)) -∗ Q ⟨⟩) -∗ WP c body Q) := by
  unfold start
  iintro ⟨⟨⟨%K, #HC, HG⟩, Hcr, Hargs, Hout⟩, Hscr, HO, Hg⟩
  iintro Hk
  iapply (wp_fupd frame (wpE (defs₀ (F := F)) 𝒱₀ (c : Thread nD τ) none) Set.univ body Q)
  iapply (wp_body m K c (Q := fun a => iprop(|={Set.univ}=> Q a))) $$ [HG Hcr Hargs Hout Hscr HO Hg]
  · isplitr; · iexact HC
    isplitl [HO]; · iexact HO
    iapply (bodyIn_intro m c)
    isplitl [HG]; · iexact HG
    isplitl [Hcr]; · iexact Hcr
    isplitl [Hargs]; · iexact Hargs
    isplitl [Hout]; · iexact Hout
    isplitl [Hscr]; · iexact Hscr
    iexact Hg
  unfold bodyEnd finish
  iintro ⟨HO, Hpos, Hbuf, Hg⟩
  ihave Hpos := (posEnd_all (F := F) c) $$ Hpos
  imod (close_all m K c) $$ [Hpos] with Hz
  · isplitr; · iexact HC
    iexact Hpos
  imodintro
  icases (bufEnd_all m c) $$ Hbuf with ⟨Hscr, Hargs, Hout⟩
  iapply Hk
  isplitr [HO Hg]
  · isplitl [Hscr]; · iexact Hscr
    isplitl [Hz]; · iexact Hz
    isplitl [Hargs]; · iexact Hargs
    iexact Hout
  isplitl [HO]; · iexact HO
  iexact Hg

end Join

end Cert.RmsSum

end
-- ==== Proof.Deal.lean ====
/-
The protocol at launch: the semaphores' duties dealt to the devices that perform them, the invariants
allocated, and the credits for what each device's peers owe it.
-/
module

public import proofs.«01_k».proof.Proof.Whole

@[expose] public section

noncomputable section

namespace Cert.RmsSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The duty tokens, as minted and as dealt -/

/-- All semaphores of all devices. -/
def meshCells : Finset (GSem nD τ sig) := Finset.univ.map ⟨kcell, kcell_inj⟩

/-- A device's own semaphores' duties: the barrier's three, and one of each other semaphore. -/
abbrev tokOf (ck : Dev nD × (Fin 3 ⊕ OKey)) : GSem nD τ sig × ℕ × Fin 3 := match ck.2 with
  | .inl a => (kcell (ck.1, kBar), 0, a)
  | .inr k => (kcell (ck.1, .inr k), 0, 0)
theorem tokOf_inj : Function.Injective tokOf := by
  rintro ⟨c, a | k⟩ ⟨c', a' | k'⟩ h
  · have h1 := congrArg Prod.fst (kcell_inj (congrArg Prod.fst h))
    have h2 : a = a' := congrArg (fun x : GSem nD τ sig × ℕ × Fin 3 => x.2.2) h
    rw [show c = c' from h1, h2]
  · exact absurd (congrArg Prod.snd (kcell_inj (congrArg Prod.fst h))) (fun h => by cases h)
  · exact absurd (congrArg Prod.snd (kcell_inj (congrArg Prod.fst h))) (fun h => by cases h)
  · have h1 := kcell_inj (congrArg Prod.fst h)
    have h2 : k = k' := Sum.inr.inj (congrArg Prod.snd h1)
    rw [show c = c' from congrArg Prod.fst h1, h2]
def meshToks : Finset (GSem nD τ sig × ℕ × Fin 3) := Finset.univ.map ⟨tokOf, tokOf_inj⟩

/-- The duties of device `c`'s own semaphores. -/
def toks (c : Dev nD) : sProp 𝕄 :=
  iprop((bigSep Finset.univ fun a : Fin 3 => duty c kBar a) ∗ bigSep Finset.univ fun k : OKey => duty c (.inr k) 0)
/-- The duties device `c` performs. -/
def payToks (c : Dev nD) : sProp 𝕄 :=
  iprop((bigSep Finset.univ fun a : Fin 3 => duty (nbr a c) kBar a) ∗ (bigSep Finset.univ fun i : Fin 3 => duty c (kInp i) 0)
    ∗ (bigSep Finset.univ fun p : Fin 4 × Fin 8 => duty c (kWb p.1 p.2) 0)
    ∗ (bigSep Finset.univ fun p : Fin 4 × Fin 8 => duty c (kSnd p.1 p.2) 0)
    ∗ (bigSep Finset.univ fun p : Fin 4 × Fin 8 => duty (peer p.1 p.2 c) (kRcv p.1 p.2) 0))

/-- A family over the devices and an index, each member moved to the neighbour along the index's axis. -/
theorem moved {I : Type} [Fintype I] [DecidableEq I] (f : I → Fin 3) (Φ : Dev nD → I → sProp 𝕄) :
    (bigSep Finset.univ fun c : Dev nD => bigSep Finset.univ fun i : I => Φ c i)
      = bigSep Finset.univ fun c : Dev nD => bigSep Finset.univ fun i : I => Φ (nbr (f i) c) i := by
  rw [bigSep_univ_comm, bigSep_univ_comm (fun (c : Dev nD) (i : I) => Φ (nbr (f i) c) i)]
  exact bigSep_congr fun i _ => bigSep_univ_equiv (nbrE (f i)) (fun c => Φ c i)

/-- Every duty goes to the device that performs it. -/
theorem toks_dealt : (bigSep Finset.univ fun c : Dev nD => (toks c : sProp 𝕄)) ⊢ bigSep Finset.univ fun c : Dev nD => payToks c := by
  have hr : (bigSep Finset.univ fun c : Dev nD => bigSep Finset.univ fun p : Fin 4 × Fin 8 => (duty c (.inr (.inr (2, p))) 0 : sProp 𝕄))
      = bigSep Finset.univ fun c : Dev nD => bigSep Finset.univ fun p : Fin 4 × Fin 8 => duty (peer p.1 p.2 c) (kRcv p.1 p.2) 0 :=
    moved (fun p : Fin 4 × Fin 8 => axis p.1 p.2) fun c p => duty c (.inr (.inr (2, p))) 0
  have hi : (bigSep Finset.univ fun c : Dev nD => bigSep Finset.univ fun i : Fin 3 => (duty c (kInp i) 0 : sProp 𝕄))
      = bigSep Finset.univ fun c : Dev nD => iprop(duty c (.inr (.inl 0)) 0 ∗ duty c (.inr (.inl 1)) 0 ∗ duty c (.inr (.inl 2)) 0) :=
    bigSep_congr fun c _ => fin3 (F := F) fun i => duty c (kInp i) 0
  unfold toks payToks
  rw [bigSep_sep', bigSep_sep', bigSep_sep', bigSep_sep', bigSep_sep', hi, ← hr,
    moved (fun a : Fin 3 => a) (fun c a => (duty c kBar a : sProp 𝕄)),
    bigSep_congr (s := Finset.univ) (fun (c : Dev nD) _ => okeys_split (F := F) fun k => duty c (.inr k) 0),
    bigSep_sep', bigSep_sep' (s := Finset.univ) (fun c : Dev nD => bigSep Finset.univ fun p : Fin 4 × Fin 8 => (duty c (.inr (.inr (0, p))) 0 : sProp 𝕄)),
    bigSep_sep' (s := Finset.univ) (fun c : Dev nD => bigSep Finset.univ fun p : Fin 4 × Fin 8 => (duty c (.inr (.inr (1, p))) 0 : sProp 𝕄))]

/-! ## The launch's ghost state -/

/-- What the launch deals device `c`. -/
def G (c : Dev nD) : sProp 𝕄 :=
  iprop((bigSep Finset.univ fun k : Key => roundState ER (sched m) (kcell (c, k)) 0)
    ∗ (bigSep Finset.univ fun k : Key => iprop(pos0 c k ∗ reached ER (kcell (c, k)) 0)) ∗ toks c)

theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun k : Key => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]
    exact bigSep_congr fun c _ => by unfold toks; rw [bigSep_univ_sum]; rfl
  iintro HX
  imod (Rounds.fund ER (sched m) meshCells meshToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_bar (c : Dev nD) : (unscopedSems0 c : sProp 𝕄) = semVal (kcell (c, kBar)) 0 := by
  unfold unscopedSems0; rw [bigSep_eq_bigSepL_of_eq [SemLoc.reg barS] (by decide) (by decide)]; rfl

/-- The body's own semaphores' counters. -/
theorem ownSems0_keys (c : Dev nD) : (Pipeline.ownSems0 (Ix := Unit) (Name := ℕ) (U := UU) (Lvl := ℕ) (Val := Elt F) (τ := τ) osem c : sProp 𝕄)
    = bigSep Finset.univ fun k : OKey => semVal (kcell (c, .inr k)) 0 := by
  rfl

/-- All semaphores' counters, from the body's own and the unscoped ones, and back. -/
theorem sems0_keys (c : Dev nD) :
    iprop(Pipeline.ownSems0 (Ix := Unit) (Name := ℕ) (U := UU) (Lvl := ℕ) (Val := Elt F) (τ := τ) osem c ∗ unscopedSems0 c)
      ⊣⊢ (bigSep Finset.univ fun k : Key => semVal (kcell (c, k)) 0 : sProp 𝕄) := by
  rw [unscopedSems0_bar, ownSems0_keys, keys_split]
  constructor
  · iintro ⟨HO, HB⟩
    isplitl [HB]; · iexact HB
    iexact HO
  · iintro ⟨HB, HO⟩
    isplitl [HO]; · iexact HO
    iexact HB

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Key => iprop(∃ κ : ℕ, cellInv ER (sched m) κ (kcell (c, k))))
          ∗ (bigSep Finset.univ fun k : Key => iprop(pos0 c k ∗ reached ER (kcell (c, k)) 0)) ∗ toks c) := by
  unfold G
  iintro ⟨Hos, Hus, Hst, Hat, Htok⟩
  ihave Hv := (sems0_keys (F := F) c).1 $$ [Hos Hus]
  · isplitl [Hos] <;> iassumption
  imod (show iprop((bigSep Finset.univ fun k : Key => semVal (kcell (c, k)) 0) ∗ bigSep Finset.univ fun k : Key => roundState ER (sched m) (kcell (c, k)) 0)
      ⊢ (|={Set.univ}=> bigSep Finset.univ fun k : Key => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The invariants and reached marks of all semaphores. -/
def records (K : Dev nD × Key → ℕ) : sProp 𝕄 :=
  iprop((bigSep Finset.univ fun ck : Dev nD × Key => cellInv ER (sched m) (K ck) (kcell ck))
    ∗ bigSep Finset.univ fun ck : Dev nD × Key => reached ER (kcell ck) 0)
instance records_persistent (K : Dev nD × Key → ℕ) : BI.Persistent (records (F := F) m K) := by unfold records; infer_instance

/-- What device `c` gets from the launch's global step. -/
def G' (c : Dev nD) : sProp 𝕄 := iprop(∃ K, records m K ∗ ghost c)

theorem regroup :
    (bigSep Finset.univ fun c : Dev nD => iprop((bigSep Finset.univ fun k : Key => iprop(∃ κ : ℕ, cellInv ER (sched m) κ (kcell (c, k))))
          ∗ (bigSep Finset.univ fun k : Key => iprop(pos0 c k ∗ reached ER (kcell (c, k)) 0)) ∗ toks c) : sProp 𝕄)
      ⊢ bigSep Finset.univ (G' m) := by
  rw [bigSep_sep', bigSep_sep', ← bigSep_univ_prod (fun ck : Dev nD × Key => iprop(∃ κ : ℕ, cellInv ER (sched m) κ (kcell ck))),
    bigSep_congr (s := Finset.univ) (fun (c : Dev nD) _ => bigSep_sep' Finset.univ (fun k : Key => (pos0 c k : sProp 𝕄)) (fun k => reached ER (kcell (c, k)) 0)),
    bigSep_sep', ← bigSep_univ_prod (fun ck : Dev nD × Key => (reached ER (kcell ck) 0 : sProp 𝕄))]
  iintro ⟨HI, ⟨Hat, #HR⟩, Htok⟩
  ihave HK := (BI.bigSep_exists_pi Finset.univ (fun (ck : Dev nD × Key) (κ : ℕ) => (cellInv ER (sched m) κ (kcell ck) : sProp 𝕄))) $$ HI
  icases HK with ⟨%K, #HI⟩
  ihave Htk := (toks_dealt (F := F)) $$ Htok
  have hg (c : Dev nD) : iprop(records m K ∗ ((bigSep Finset.univ fun k : Key => pos0 c k) ∗ payToks c)) ⊢ (G' m c : sProp 𝕄) := by
    unfold G' ghost payToks
    iintro ⟨HR, H⟩
    iexists K
    isplitl [HR]; · iexact HR
    iexact H
  iapply ((sep_mono_left (BI.bigSep_of_persistent Finset.univ (records m K))).trans ((Entails.of_eq (bigSep_sep' _ _ _).symm).trans (bigSep_mono fun c _ => hg c)))
  isplitr
  · unfold records; isplitl; · iexact HI
    iexact HR
  iapply (Entails.of_eq (bigSep_sep' Finset.univ (fun c : Dev nD => bigSep Finset.univ fun k : Key => (pos0 c k : sProp 𝕄)) payToks).symm)
  isplitl [Hat]; · iexact Hat
  iexact Htk

/-- The global step: the counters of all devices become the protocol. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits at launch -/

theorem tally_k (ck ck' : Dev nD × Key) (N : ℕ) : tallyAt (kcell ck') () N (kcell ck) () = if ck = ck' then N else 0 := by
  rw [tallyAt_apply]
  by_cases h : ck = ck'
  · rw [if_pos h, if_pos ⟨by rw [h], rfl⟩]
  · rw [if_neg h, if_neg fun h' => h (kcell_inj h'.1)]

/-- What a device owes a semaphore that is none of its channel's landings. -/
theorem due_other (d : Dev nD) (h : Fin 4) (ck : Dev nD × Key) (hk : ∀ j, ck.2 ≠ kRcv h j) : ∀ l, due d h l (kcell ck) () = 0
  | [] => rfl
  | j :: l => by
    show (due d h l + tallyAt (kcell (peer h j d, kRcv h j)) () NS) (kcell ck) () = 0
    rw [Pi.add_apply, Finsupp.add_apply, due_other d h ck hk l, tally_k, if_neg fun e => hk j (congrArg Prod.snd e)]

/-- What a device owes a landing of its channel. -/
theorem due_rcv (d c : Dev nD) (h : Fin 4) (j : Fin 8) : ∀ l : List (Fin 8), l.Nodup →
    due d h l (kcell (c, kRcv h j)) () = if j ∈ l ∧ d = peer h j c then NS else 0
  | [], _ => (if_neg fun h => absurd h.1 List.not_mem_nil).symm
  | j' :: l, hl => by
    show (due d h l + tallyAt (kcell (peer h j' d, kRcv h j')) () NS) (kcell (c, kRcv h j)) () = _
    rw [Pi.add_apply, Finsupp.add_apply, due_rcv d c h j l (List.nodup_cons.mp hl).2, tally_k]
    by_cases hj : j = j'
    · subst hj
      rw [if_neg fun h => (List.nodup_cons.mp hl).1 h.1, Nat.zero_add]
      by_cases hd : d = peer h j c
      · subst hd
        rw [if_pos (by rw [peer_peer]), if_pos ⟨List.mem_cons_self, rfl⟩]
      · rw [if_neg fun e => hd (by rw [show c = peer h j d from congrArg Prod.fst e, peer_peer]), if_neg fun e => hd e.2]
    · rw [if_neg (fun e => hj (Prod.mk.inj (Prod.mk.inj (Sum.inr.inj (Sum.inr.inj (congrArg Prod.snd e)))).2).2 :
        ¬ ((c, kRcv h j) : Dev nD × Key) = (peer h j' d, kRcv h j')), Nat.add_zero]
      refine if_congr ?_ rfl rfl
      rw [List.mem_cons]
      simp [hj]

theorem dueAll_rcv (d c : Dev nD) (h : Fin 4) (j : Fin 8) : dueAll d (kcell (c, kRcv h j)) () = if d = peer h j c then NS else 0 := by
  have hx (h' : Fin 4) : due d h' all8 (kcell (c, kRcv h j)) () = if h' = h ∧ d = peer h j c then NS else 0 := by
    by_cases e : h' = h
    · subst e
      rw [due_rcv d c h' j all8 (by decide)]
      refine if_congr ?_ rfl rfl
      rw [show (j ∈ all8) = True from eq_true (by revert j; decide)]
      simp
    · rw [due_other d h' (c, kRcv h j) (fun j' hj => e (by have := hj; simp at this; exact this.1.symm)), if_neg fun x => e x.1]
  unfold dueAll
  rw [Pi.add_apply, Finsupp.add_apply, Pi.add_apply, Finsupp.add_apply, Pi.add_apply, Finsupp.add_apply, hx, hx, hx, hx]
  by_cases hd : d = peer h j c
  · fin_cases h <;> simp [hd]
  · simp [hd]

theorem dueAll_bar (d c : Dev nD) : dueAll d (kcell (c, kBar)) () = 0 := by
  unfold dueAll
  rw [Pi.add_apply, Finsupp.add_apply, Pi.add_apply, Finsupp.add_apply, Pi.add_apply, Finsupp.add_apply,
    due_other d 3 (c, kBar) (fun j h => by cases h), due_other d 1 (c, kBar) (fun j h => by cases h),
    due_other d 2 (c, kBar) (fun j h => by cases h), due_other d 0 (c, kBar) (fun j h => by cases h)]

/-- What a device owes at launch to a barrier, and to a landing. -/
theorem owed_bar (d c : Dev nD) : owed₀ d (kcell (c, kBar)) ()
    = (if d = nbr 2 c then 1 else 0) + (if d = nbr 1 c then 1 else 0) + (if d = nbr 0 c then 1 else 0) := by
  have hx (a : Fin 3) : tallyAt (kcell (nbr a d, kBar)) () 1 (kcell (c, kBar)) () = if d = nbr a c then 1 else 0 := by
    rw [tally_k]
    refine if_congr ⟨fun e => ?_, fun e => ?_⟩ rfl rfl
    · rw [show c = nbr a d from congrArg Prod.fst e, nbr_nbr]
    · rw [e, nbr_nbr]
  unfold owed₀
  rw [Pi.add_apply, Finsupp.add_apply, Pi.add_apply, Finsupp.add_apply, Pi.add_apply, Finsupp.add_apply, dueAll_bar, hx, hx, hx, Nat.zero_add]

theorem owed_rcv (d c : Dev nD) (h : Fin 4) (j : Fin 8) : owed₀ d (kcell (c, kRcv h j)) () = if d = peer h j c then NS else 0 := by
  have hx (a : Fin 3) : tallyAt (kcell (nbr a d, kBar)) () 1 (kcell (c, kRcv h j)) () = 0 := by
    rw [tally_k]
    exact if_neg fun e => by have := congrArg Prod.snd e; cases this
  unfold owed₀
  rw [Pi.add_apply, Finsupp.add_apply, Pi.add_apply, Finsupp.add_apply, Pi.add_apply, Finsupp.add_apply, dueAll_rcv, hx, hx, hx]
  simp only [Nat.add_zero]

theorem launch_bar (c : Dev nD) :
    tallyOn (kcell (c, kBar)) (launchCredit (Pipeline.owing owed₀) 0 (kcell (c, kBar))) = (tallyAt (kcell (c, kBar)) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (nbr 2 c) fun _ => 1, Finset.sum_ite_eq' Finset.univ (nbr 1 c) fun _ => 1, Finset.sum_ite_eq' Finset.univ (nbr 0 c) fun _ => 1,
    if_pos (Finset.mem_univ _), if_pos (Finset.mem_univ _), if_pos (Finset.mem_univ _)]

theorem launch_rcv (c : Dev nD) (h : Fin 4) (j : Fin 8) :
    tallyOn (kcell (c, kRcv h j)) (launchCredit (Pipeline.owing owed₀) 0 (kcell (c, kRcv h j))) = (tallyAt (kcell (c, kRcv h j)) () NS : CellTallies nD τ sig Unit) := by
  unfold tallyAt; refine congrArg _ (Finsupp.ext fun u => ?_); cases u
  rw [Pipeline.launchCredit_owing, Finsupp.single_eq_same, Finset.sum_congr rfl fun d _ => owed_rcv d c h j,
    Finset.sum_ite_eq' Finset.univ (peer h j c) fun _ => NS, if_pos (Finset.mem_univ _)]

/-- The credits a device is launched with: its barrier's three and its landings'. -/
theorem creds (c : Dev nD) : (Pipeline.launchCred owed₀ c : sProp 𝕄)
    ⊢ iprop(cred (tallyAt (kcell (c, kBar)) () 3) ∗ (bigSep Finset.univ fun p : Fin 4 × Fin 8 => crd c (kRcv p.1 p.2))) := by
  have e : (Pipeline.launchCred owed₀ c : sProp 𝕄)
      ⊢ bigSep Finset.univ fun k : Key => cred (tallyOn (kcell (c, k)) (launchCredit (Pipeline.owing owed₀) 0 (kcell (c, k)))) := by
    unfold Pipeline.launchCred
    refine (BI.bigSep_subset (Finset.subset_univ (Finset.univ.map ⟨csem, csem_inj⟩))).trans ?_
    rw [bigSep_map]
    exact BI.Entails.refl _
  have h : (bigSep Finset.univ fun p : Fin 4 × Fin 8 => (cred (tallyOn (kcell (c, kRcv p.1 p.2)) (launchCredit (Pipeline.owing owed₀) 0 (kcell (c, kRcv p.1 p.2)))) : sProp 𝕄))
      ⊢ bigSep Finset.univ fun p : Fin 4 × Fin 8 => crd c (kRcv p.1 p.2) :=
    bigSep_mono fun p _ => Entails.of_eq (congrArg cred (launch_rcv c p.1 p.2))
  rw [keys_split, okeys_split] at e
  iintro H
  ihave H := e $$ H
  icases H with ⟨HB, -, -, -, HR⟩
  isplitl [HB]
  · iapply (Entails.of_eq (congrArg cred (launch_bar c))); iexact HB
  iapply h
  iexact HR

end Cert.RmsSum

end
-- ==== Proof.ProgEq.lean ====
/-
The printed body is the body of Prog.lean.
-/
module

public import proofs.«01_k».proof.Proof.Prog
public import Idealize.ShloMosaic.Lib.Tactic

@[expose] public section

noncomputable section

namespace Cert.RmsSum

open Cert.KernelIdeal Cert.KernelIdeal.Gen
open Idealize.ShloMosaic Idealize.ShloMosaic.TcCoe
open Idealize.SL Idealize.SL.Sem

variable {F : FTy → Type} [FloatOps F]

set_option maxRecDepth 65536 in
set_option maxHeartbeats 0 in
/-- The printed body, as the launch calls it, is `body`. -/
theorem bodyAt_eq (t : Fin cfg0.N) : bodyAt0 (F := F) t = body (F := F) := by
  rw [fin_N0 t]
  sl_kernel_rfl

end Cert.RmsSum

end
-- ==== Proof.Run.lean ====
/-
The run of the kernel on all devices, for any float values.
-/
module

public import proofs.«01_k».proof.Proof.Deal
public import proofs.«01_k».proof.Proof.ProgEq
public import Idealize.ShloMosaic.Lib.Pipeline.CollectiveSegs

@[expose] public section

noncomputable section

namespace Cert.RmsSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## The pipeline's proof data -/

/-- The one window stages gamma, which the body leaves as it is; the body goes from the protocol's start to its end. -/
def dats (_ : Fin 1) (c : Dev nD) : Dat τ (Elt F) Unit ℕ UU ℕ cfg0 c where
  A w := m ((cfg0.win w).arr.view.loc (c : Thread nD τ))
  after w _ := match w with
    | ⟨0, _⟩ => gamW m c
  Φ t := match t with
    | ⟨0, _⟩ => iprop(start m c ∗ scratch c)
    | ⟨_ + 1, _⟩ => finish m c
  q _ := fullShare
  owed t := match t with
    | ⟨0, _⟩ => owed₀ c
    | ⟨_ + 1, _⟩ => 0

/-- A staging buffer at given contents. -/
def stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

theorem stg_owns (c : Dev nD) (X : S1024.Idx → Elt F .f32) :
    (stg c cc0_stg0_0 X : sProp 𝕄) ⊣⊢ owns (c : Thread nD τ) gamM fullShare X := by
  unfold stg owns
  simp only [Memref.view_whole, View.read_whole, View.set_whole]
  exact ⟨BI.Entails.refl _, BI.Entails.refl _⟩

def bodyPre (c : Dev nD) : sProp 𝕄 :=
  iprop((start m c ∗ scratch c) ∗ (dats m 0 c).owesAt () t0_0.castSucc ∗ (∃ d, stg c cc0_stg0_0 ((dats m 0 c).before (0 : Fin 1) t0_0 d)))
def bodyPost (c : Dev nD) : sProp 𝕄 :=
  iprop(finish m c ∗ (dats m 0 c).owesAt () t0_0.succ ∗ stg c cc0_stg0_0 (gamW m c))

/-- The staged block is gamma's. -/
theorem before_gam (c : Dev nD) (d) : (dats m 0 c).before (0 : Fin 1) t0_0 d = gamW m c := by
  unfold Dat.before
  rw [if_pos (by decide)]
  rfl

/-- What the launch calls at the point is the body. -/
theorem call_eq : defs₀ (F := F) .tc 0 (t0_0, cfg0.slots t0_0) = body := by
  refine Eq.trans ?_ (bodyAt_eq t0_0)
  sl_kernel_rfl

theorem sound (c : Dev nD) : bodyPre m c ⊢ WP c body (fun _ => bodyPost m c) := by
  have hw := wp_whole m c (Q := fun _ => bodyPost m c)
  unfold owesX at hw
  unfold bodyPre
  iintro ⟨⟨Hs, Hscr⟩, Ho, ⟨%d, Hg⟩⟩
  ihave Hg := (Entails.of_eq (congrArg (stg c cc0_stg0_0) (before_gam m c d))) $$ Hg
  ihave Hg := (stg_owns (F := F) c (gamW m c)).1 $$ Hg
  unfold Dat.owesAt Pipeline.owesWithin
  icases Ho with ⟨%W, %hW, HO⟩
  iapply hw $$ [Hs Hscr HO Hg]
  · isplitl [Hs]; · iexact Hs
    isplitl [Hscr]; · iexact Hscr
    isplitl [HO]; · iexists W; iexact HO
    iexact Hg
  iintro ⟨Hf, ⟨%W', HO⟩, Hg⟩
  unfold bodyPost Dat.owesAt Pipeline.owesWithin
  isplitl [Hf]; · iexact Hf
  isplitl [HO]
  · iexists W'
    isplitr; · ipureintro; exact fun _ _ => Or.inl trivial
    iexact HO
  iapply (stg_owns (F := F) c (gamW m c)).2
  iexact Hg

/-- The library's body obligation on core `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  rw [call_eq]
  refine (show _ ⊢ bodyPre m c from BI.Entails.refl _).trans ((sound m c).trans (Entails.of_eq ?_))
  unfold WP
  congr 1

/-! ## The launch -/

theorem ownSemFacts : Pipeline.OwnSemFacts cfg0.spec osem := by decide +kernel

theorem share_eq (c : Dev nD) (w : Fin cfg0.W) : (dats m 0 c).share w = fullShare := by unfold Dat.share; split <;> rfl

/-- The launch's ghost element: the pipeline's and the protocol's. -/
def u₀ : UU := (initOf (Pipeline.cells cfgs cellOf_inj) (Pipeline.launchToks cfgs cellOf_inj), initOf meshCells meshToks)

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  rw [Pipeline.unscopedRestP_none, unscopedRest0_eq]
  unfold start inpArgs G' records ctx
  iintro ⟨⟨H0, H1, H2⟩, Hlev, Hcr, -, ⟨%K, ⟨HI, HR⟩, HG⟩⟩
  ihave Hc := (creds (F := F) c) $$ Hcr
  imodintro
  isplitl
  · isplitl [HI HR HG Hlev]
    · iexists K
      isplitl [HI HR Hlev]
      · isplitl [HI]; · iexact HI
        isplitl [HR] <;> iassumption
      iexact HG
    isplitl [Hc]; · iexact Hc
    isplitl [H0 H1]
    · isplitl [H0] <;> iassumption
    iexists _; iexact H2
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  unfold scratch
  iintro ⟨Hs, -, Hr⟩
  isplitl [Hs]; · iexact Hs
  iexact Hr

/-- What the run leaves a device besides its own semaphores: the barrier's counter, the arguments and the result. -/
def left (c : Dev nD) : sProp 𝕄 := iprop(unscopedSems0 c ∗ inpArgs m c ∗ outDone m c)

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = finish m c from rfl, scopedRest0_eq]
  unfold finish left scratch
  iintro ⟨Hr, Hsem, Ha, Ho⟩
  ihave Hsem := (sems0_keys (F := F) c).2 $$ Hsem
  icases Hsem with ⟨Hown, Hbar⟩
  isplitl [Hbar Ha Ho]
  · isplitl [Hbar]; · iexact Hbar
    isplitl [Ha] <;> iassumption
  isplitl [Hown]; · iexact Hown
  iexact Hr

/-- A semaphore that is none of the protocol's is at the lowest level. -/
theorem stage_level (c : Dev nD) (sm : SemLoc sig) (h : ∀ k, csem k ≠ sm) : lv ((c : Thread nD τ), sm) () = 0 := by
  unfold lv dec
  rw [dif_neg]
  rintro ⟨ck, e⟩
  exact h ck.2 (congrArg Prod.snd e)

theorem waits (c : Dev nD) : (levAts L lv : sProp 𝕄) ⊢ Pipeline.cellsWaits cfgs (dats m) () 0 c :=
  Pipeline.cellsWaits_intro cfgs (dats m) () 0 c fun w s t =>
    mayWait c _ _ 0 (stage_level c _ (by fin_cases w <;> fin_cases s <;> decide +kernel)) (by
      rcases t with ⟨_ | _, ht⟩
      · exact above_owed₀ c
      · exact above_zero 0)

/-! ## The run -/

/-- What a final state holds on device `c`. -/
def Done (c : Dev nD) (s : MemSt nD τ sig (Elt F)) : Prop :=
  (∀ sm : SemLoc sig, sm.isScoped .tc = false → s.sem ((c.tc : Thread nD τ), sm) = 0)
    ∧ s.mem ((c : Thread nD τ).loc main_arg0) = arg0 m c ∧ s.mem ((c : Thread nD τ).loc main_arg1) = arg1 m c
    ∧ outIs m c (s.mem ((c : Thread nD τ).loc main_v1))

theorem left_read (c : Dev nD) (s' : Phys nD τ sig (Elt F)) :
    iprop(left m c ∗ emp ∗ SI s') ⊢ (|={Set.univ}=> iprop(⌜Done m c s'.mem⌝ ∗ SI s') : sProp 𝕄) := by
  unfold left inpArgs outDone
  iintro ⟨⟨Hu, ⟨H0, H1⟩, ⟨%f, %hf, H2⟩⟩, -, HSI⟩
  icombine HSI H0 gives %h0
  icombine HSI H1 gives %h1
  icombine HSI H2 gives %h2
  imod (Pipeline.unscopedSems0_read (X := unscopedSems0 c) (c := c) fupd_intro s') $$ [Hu HSI] with ⟨%hs, HSI⟩
  · isplitl [Hu] <;> iassumption
  imodintro
  isplitr
  · ipureintro
    exact ⟨hs, funext fun i => h0 i (Finset.mem_univ i), funext fun i => h1 i (Finset.mem_univ i),
      (funext fun i => h2 i (Finset.mem_univ i) : s'.mem.mem ((c : Thread nD τ).loc main_v1) = f) ▸ hf⟩
  iexact HSI

set_option maxRecDepth 8000 in
/-- From any memory with zero counters, every weakly fair execution of the 32 kernels terminates; every final state has
    the arguments as launched, every row of each device's result at the computed contents, and every semaphore at zero. -/
theorem run_main : θ_run defs (onTc (τ := τ) (main (F := F))) ⟨m, fun _ => 0, ρ⟩ (fun r =>
    (∀ c : Dev nD, Done m c r.2 ∧ r.2.mem ((c : Thread nD τ).loc main_arg2) = m ((c : Thread nD τ).loc main_arg2)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => block_pos0 w) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_mesh m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m) (hout := phi1_exit m)
    (QY := Done m)
    (hY := fun c s' => left_read m c s')
    (hQ := fun _ h hs => ⟨fun c => ⟨(h c).2.2, ((h c).1 (0 : Fin 1)).trans ((dats (F := F) m 0 c).arrAt_in (0 : Fin 1) rfl _)⟩,
      sem_eq_zero hs fun c => (h c).2.2.1⟩)

end Cert.RmsSum

end
-- ==== Proof.Block.lean ====
/-
What one chunk of the kernel's result is over the extended reals.
-/
module

public import proofs.«01_k».proof.Proof.Gen.KernelIdeal.Skeleton
public import Idealize.ShloMosaic.Lib.Pointwise

@[expose] public section

noncomputable section

namespace Cert.RmsSum

open Cert.KernelIdeal Cert.KernelIdeal.Gen
open Idealize.ShloMosaic Idealize.ShloMosaic.TcCoe

/-- Entry `l` of a row scaled by its root mean square and by gamma's entry, over the extended reals. -/
def normed (y : Fin 1024 → EReal) (g : EReal) (l : Fin 1024) : EReal :=
  Ideal.div (y l) (Ideal.sqrt (Ideal.div (∑ k : Fin 1024, y k * y k) (Ideal.ofBits .f32 0x44800000#32) + Ideal.ofBits .f32 0x358637BD#32)) * g

/-- What the kernel computes of a chunk: each row of the sum of its own rows, the received ones and the residual's, normed. -/
theorem pay10_apply (p : FVec Ideal S32x1024 .f32) (o : FVec Ideal S1x32x1024 .bf16) (r : FVec Ideal S32x1024 .f32) (g : FVec Ideal S1024 .f32)
    (i : Fin 32) (l : Fin 1024) :
    k0_pay10 (F := Ideal) p o r g (ix2 i l)
      = normed (fun k => p (ix2 i k) + o (ix3 0 i k) + r (ix2 i k)) (g (ix1 l)) l := by
  unfold normed
  pointwise [k0_pay10]

/-- The chunk in f32, the chunk rounded and widened again, are that. -/
theorem pay11_apply (p : FVec Ideal S32x1024 .f32) (o : FVec Ideal S1x32x1024 .bf16) (r : FVec Ideal S32x1024 .f32) (g : FVec Ideal S1024 .f32)
    (j : S32x1024.Idx) : k0_pay11 (F := Ideal) p o r g j = k0_pay10 (F := Ideal) p o r g j := by
  unfold k0_pay11
  pointwise

theorem pay40_apply (p : FVec Ideal S32x1024 .f32) (o : FVec Ideal S1x32x1024 .bf16) (r : FVec Ideal S32x1024 .f32) (g : FVec Ideal S1024 .f32)
    (j : S32x1024.Idx) : k0_pay40 (F := Ideal) (k0_pay12 (F := Ideal) p o r g) j = k0_pay10 (F := Ideal) p o r g j := by
  unfold k0_pay40 k0_pay12
  pointwise

/-- What the other device on x sends is its own rows. -/
theorem pay1_apply (x : FVec Ideal S32x1024 .f32) (i : Fin 32) (l : Fin 1024) : k0_pay1 (F := Ideal) x (ix3 0 i l) = x (ix2 i l) := by
  unfold k0_pay1
  pointwise

end Cert.RmsSum

end
-- ==== Proof.Array.lean ====
/-
What the kernel's result holds.

First the rows each chunk is of the arguments and of the result, then the entries of the result.
-/
module

public import proofs.«01_k».proof.Proof.Run
public import proofs.«01_k».proof.Proof.Block
public import Idealize.ShloMosaic.Lib.Pipeline.ValueKit.Geometry

@[expose] public section

noncomputable section

namespace Cert.RmsSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-! ## Which rows the chunks are -/

theorem qRow_le : ∀ (d : Dev nD), qRow d + 256 ≤ 1024 := by decide +kernel

/-- Row `i` of chunk `j` of device `d`'s 256 rows, among the 1024. -/
def rowAt (d : Dev nD) (j : Fin 8) (i : Fin 32) : Fin 1024 :=
  ⟨qRow d + 32 * j.val + i.val, by have := qRow_le d; have := j.isLt; have := i.isLt; omega⟩

/-- Row `i` of chunk `j`, among the device's 256. -/
def rowIn (j : Fin 8) (i : Fin 32) : Fin 256 := ⟨32 * j.val + i.val, by have := j.isLt; have := i.isLt; omega⟩

theorem rowR_emb (j : Fin 8) (i : Fin 32) (k : Fin 1024) : (rowR j).emb (ix2 i k) = ix2 (rowIn j i) k := by
  funext a
  apply Fin.ext
  rw [ValueKit.rect_emb_unit_val]
  match a with
  | ⟨0, _⟩ => rfl
  | ⟨1, _⟩ => exact Nat.zero_add _

/-- 256 rows cut out of a device's 1024. -/
theorem cut_apply {α : Type} (X : S1x1024x1024.Idx → α) (o : Fin 3 → Nat) (q : Nat) (ho : o = ![0, q, 0])
    (hin : ∀ a, o a + S1x256x1024.size a ≤ S1x1024x1024.size a) (x : Fin 256) (y : Fin 1024) (hy : y.val = q + x.val) (k : Fin 1024) :
    X ((Rect.unit (s := S1x1024x1024) o S1x256x1024.size hin).emb (ix3 (0 : Fin 1) x k)) = X (ix3 (0 : Fin 1) y k) := by
  subst ho
  refine congrArg X (funext fun a => Fin.ext ?_)
  rw [ValueKit.rect_emb_unit_val]
  match a with
  | ⟨0, _⟩ => rfl
  | ⟨1, _⟩ => exact hy.symm
  | ⟨2, _⟩ => exact Nat.zero_add _

/-- Dropping the leading axis of extent one from a block of 256 rows. -/
theorem drop_apply {α : Type} (X : S1x256x1024.Idx → α) (h : S1x256x1024.ShapeCasts S256x1024) (x : Fin 256) (k : Fin 1024) :
    shapeCast S256x1024 X h (ix2 x k) = X (ix3 (0 : Fin 1) x k) := by
  pointwise

/-- The rows a device sends away are the other device's rows of its own partial sum, -/
theorem pnW_chunk (c : Dev nD) (j : Fin 8) (i : Fin 32) (k : Fin 1024) :
    chunk (pnW m c) j (ix2 i k) = arg0 m c (ix3 (0 : Fin 1) (rowAt (nbr 0 c) j i) k) := by
  show pnW m c ((rowR j).emb (ix2 i k)) = _
  rw [rowR_emb]
  unfold pnW
  rw [Memref.read_squeeze_slice pHbm (pnR c) (fun _ => rfl) squeezes_S1x256x1024_S256x1024 squeezes_S1x256x1024_S256x1024.numel_eq]
  refine (drop_apply _ _ (rowIn j i) k).trans ?_
  exact cut_apply (arg0 m c) _ _ (off1_eq c) _ _ _ (Nat.add_assoc _ _ _) k

/-- those it keeps are its own, -/
theorem pW_chunk (c : Dev nD) (j : Fin 8) (i : Fin 32) (k : Fin 1024) :
    chunk (pW m c) j (ix2 i k) = arg0 m c (ix3 (0 : Fin 1) (rowAt c j i) k) := by
  show pW m c ((rowR j).emb (ix2 i k)) = _
  rw [rowR_emb]
  unfold pW
  rw [Memref.read_squeeze_slice pHbm (pR c) (fun _ => rfl) squeezes_S1x256x1024_S256x1024 squeezes_S1x256x1024_S256x1024.numel_eq]
  refine (drop_apply _ _ (rowIn j i) k).trans ?_
  exact cut_apply (arg0 m c) _ _ (off2_eq c) _ _ _ (Nat.add_assoc _ _ _) k

/-- and so are the residual's. -/
theorem rW_chunk (c : Dev nD) (j : Fin 8) (i : Fin 32) (k : Fin 1024) :
    chunk (rW m c) j (ix2 i k) = arg1 m c (ix2 (rowAt c j i) k) := by
  show rW m c ((rowR j).emb (ix2 i k)) = _
  rw [rowR_emb]
  show arg1 m c ((rR c).emb (ix2 (rowIn j i) k)) = _
  refine congrArg (arg1 m c) (funext fun a => Fin.ext ?_)
  refine (ValueKit.rect_emb_unit_val _ _ _ _ a).trans ((congrArg (· + _) (congrFun (off3_eq c) a)).trans ?_)
  match a with
  | ⟨0, _⟩ => exact (Nat.add_assoc _ _ _).symm
  | ⟨1, _⟩ => exact Nat.zero_add _

/-- Gamma is staged whole. -/
theorem gamV_apply (c : Dev nD) (l : Fin 1024) : gamV m c (ix1 l) = arg2 m c (ix1 l) := by
  show arg2 m c ((win0_0.blk (0 : Fin 1)).view.emb (gamR.emb (ix1 l))) = _
  refine congrArg (arg2 m c) (funext fun a => Fin.ext ?_)
  match a with
  | ⟨0, _⟩ =>
    show 0 + 1 * (0 + 1 * l.val) = l.val
    omega

/-- The row of the result that row `i` of write-back `g` of chunk `j` is. -/
theorem outR_emb (c : Dev nD) (g : Fin 4) (j : Fin 8) (i : Fin 32) (l : Fin 1024) :
    (outR c g j).emb (ix2 i l) = ix2 (rowAt (maker g j c) j i) l := by
  funext a
  apply Fin.ext
  refine (ValueKit.rect_emb_unit_val _ _ _ _ a).trans ((congrArg (· + _) (congrFun (outOff_eq c g j) a)).trans ?_)
  match a with
  | ⟨0, _⟩ => rfl
  | ⟨1, _⟩ => exact Nat.zero_add _

/-- Every row of the result is a row of some write-back. -/
theorem row_cover (c : Dev nD) (R : Fin 1024) : ∃ (k : Fin 4 × Fin 8) (i : Fin 32), rowAt (maker k.1 k.2 c) k.2 i = R := by
  obtain ⟨k, hk⟩ := (outIx_bij c).2 ⟨R.val / 32, by have := R.isLt; omega⟩
  refine ⟨k, ⟨R.val % 32, Nat.mod_lt _ (by decide)⟩, Fin.ext ?_⟩
  have h := outIx_val c k
  rw [hk] at h
  show qRow (maker k.1 k.2 c) + 32 * k.2.val + R.val % 32 = R.val
  rw [← h]
  exact Nat.div_add_mod _ _

/-! ## What the result holds, over the extended reals -/

variable (m : (ℓ : Loc nD τ sig) → Buf (Elt Ideal) ℓ)

/-- A device's partial sum and residual, as extended reals. -/
abbrev part (c : Dev nD) : S1x1024x1024.Idx → EReal := arg0 m c
abbrev resid (c : Dev nD) : S1024x1024.Idx → EReal := arg1 m c

/-- Entry `(R, l)` of the result as device `d` computes it: from its own partial sum and its neighbour's. -/
def made (d : Dev nD) (R l : Fin 1024) : EReal :=
  normed (fun k => part m d (ix3 (0 : Fin 1) R k) + part m (nbr 0 d) (ix3 (0 : Fin 1) R k) + resid m d (ix2 R k)) (arg2 m d (ix1 l)) l

/-- A chunk a device finishes. -/
theorem fin_apply (d : Dev nD) (j : Fin 8) (i : Fin 32) (l : Fin 1024) :
    k0_pay10 (F := Ideal) (chunk (pW m d) j) (pbW m (nbr 0 d) j) (chunk (rW m d) j) (gamV m d) (ix2 i l) = made m d (rowAt d j i) l := by
  have hp : ∀ k : Fin 1024, pbW m (nbr 0 d) j (ix3 (0 : Fin 1) i k) = arg0 m (nbr 0 d) (ix3 (0 : Fin 1) (rowAt d j i) k) := fun k => by
    unfold pbW
    rw [pay1_apply, pnW_chunk, nbr_nbr]
  rw [pay10_apply, gamV_apply]
  unfold made
  refine congrArg (fun y => normed y _ _) (funext fun k => ?_)
  rw [pW_chunk, rW_chunk, hp]

/-- The chunk rounded, then widened again. -/
theorem ob_apply (d : Dev nD) (j : Fin 8) (i : Fin 32) (l : Fin 1024) :
    k0_pay40 (F := Ideal) (obW m d j) (ix2 i l) = made m d (rowAt d j i) l :=
  (pay40_apply _ _ _ _ _).trans (fin_apply m d j i l)

/-- What every write-back writes. -/
theorem outW_apply (c : Dev nD) : ∀ (g : Fin 4) (j : Fin 8) (i : Fin 32) (l : Fin 1024),
    outW m g c j (ix2 i l) = made m (maker g j c) (rowAt (maker g j c) j i) l
  | 0, j, i, l => (pay11_apply _ _ _ _ _).trans (fin_apply m c j i l)
  | 1, j, i, l => ob_apply m (nbr 2 c) j i l
  | 2, j, i, l => ob_apply m (peer 1 j c) j i l
  | 3, j, i, l => ob_apply m (nbr 2 (nbr 1 c)) j i l

/-- The result holds at every row what the device that made the row computes. -/
theorem out_apply (c : Dev nD) (f : S1024x1024.Idx → EReal) (h : outIs m c f) (R l : Fin 1024) :
    ∃ d : Dev nD, f (ix2 R l) = made m d R l := by
  obtain ⟨k, i, hR⟩ := row_cover c R
  refine ⟨maker k.1 k.2 c, ?_⟩
  have e := h k (ix2 i l)
  rw [outR_emb, hR] at e
  rw [e, outW_apply, hR]

end Cert.RmsSum

end
-- ==== Proof.RefValue.lean ====
/-
What the reference computes: its run, and the entries of its result over the extended reals.
-/
module

public import proofs.«01_k».proof.Proof.Gen.ReferenceIdeal.Run
public import proofs.«01_k».proof.Proof.Block
public import Idealize.ShloMosaic.Lib.Quiescent

@[expose] public section

noncomputable section

namespace Cert.RefSum

open Cert.ReferenceIdeal Cert.ReferenceIdeal.Gen
open Idealize.ShloMosaic Idealize.ShloMosaic.TcCoe Idealize.SL.Sem

variable {F : FTy → Type} [FloatOps F]

/-- The sum the reference normalises: the partial sums added up, plus the residual. -/
abbrev rowsRef (X : FVec F S2x1024x1024 .f32) (R : FVec F S1024x1024 .f32) : FVec F S1024x1024 .f32 :=
  addf (Host.reduceAdd X (constant S_ .f32 0x00000000#32) reducesTo_S2x1024x1024_S1024x1024_d0 h_S_) R

/-- The reference's result, of its three arguments. -/
def resRef (X : FVec F S2x1024x1024 .f32) (R : FVec F S1024x1024 .f32) (G : FVec F S1024 .f32) : FVec F S1024x1024 .f32 :=
  mulf (Host.divf (rowsRef X R) (broadcastInDim S1024x1024 ![0, 1] bcast_S1024x1_S1024x1024_0_1 (Host.sqrt (addf (Host.divf (broadcastInDim S1024x1 ![0] bcast_S1024_S1024x1_0 (Host.reduceAdd (mulf (rowsRef X R) (rowsRef X R)) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))))) (broadcastInDim S1024x1024 ![0, 1] bcast_S1x1024_S1024x1024_0_1 (broadcastInDim S1x1024 ![1] bcast_S1024_S1x1024_1 G))

/-- Every execution of the reference ends with that result, the arguments as they were and every counter at zero. -/
theorem run_ref (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v14)
          = resRef (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨h, sem_eq_zero_of_no_sems rfl r.2⟩) (Value.run m ρ)

/-- The sum of the rows, entry by entry. -/
theorem rowsRef_apply (X : FVec Ideal S2x1024x1024 .f32) (R : FVec Ideal S1024x1024 .f32) (i l : Fin 1024) :
    rowsRef X R (ix2 i l) = X (ix3 0 i l) + X (ix3 1 i l) + R (ix2 i l) := by
  pointwise
  rw [Fin.sum_univ_two]

/-- Entry `(i, l)` of the reference's result: entry `l` of row `i` of that sum, normed. -/
theorem resRef_apply (X : FVec Ideal S2x1024x1024 .f32) (R : FVec Ideal S1024x1024 .f32) (G : FVec Ideal S1024 .f32) (i l : Fin 1024) :
    resRef X R G (ix2 i l)
      = RmsSum.normed (fun k => X (ix3 0 i k) + X (ix3 1 i k) + R (ix2 i k)) (G (ix1 l)) l := by
  have e : (fun k => X (ix3 0 i k) + X (ix3 1 i k) + R (ix2 i k)) = fun k => rowsRef X R (ix2 i k) :=
    funext fun k => (rowsRef_apply X R i k).symm
  rw [e]
  unfold RmsSum.normed resRef
  generalize rowsRef X R = y
  pointwise

end Cert.RefSum

end
-- ==== Proof.Equation.lean ====
/-
The kernel's result is the reference's.

Each device holds one of the two partial sums, its neighbour the other; both hold the residual and gamma whole.
-/
module

public import proofs.«01_k».proof.Proof.Array
public import proofs.«01_k».proof.Proof.RefValue
public import Idealize.ShloMosaic.Lib.Layout

@[expose] public section

noncomputable section

namespace Cert.RmsSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The arguments, cut over the mesh -/

/-- Which half of the partial sums a device holds. -/
def half (d : Dev nD) : Fin 2 := ⟨d.val / 16, by have h32 : d.val < 32 := d.isLt; omega⟩

/-- A device and its neighbour along the first axis hold the two halves. -/
theorem half_nbr : ∀ (d : Dev nD), (half d = 0 ∧ half (nbr 0 d) = 1) ∨ (half d = 1 ∧ half (nbr 0 d) = 0) := by decide +kernel

/-- The block of the partial sums a device holds is its half. -/
theorem blk_idx (d : Dev nD) (h : Layout.TilesN ⟨3, ![1, 1024, 1024]⟩ ⟨3, ![2, 1024, 1024]⟩ (fun b => Layout.cutSize [2, 4, 4] ((![[0], [], []] : Fin 3 → List Nat) b)))
    (R k : Fin 1024) : h.idx (Layout.meshBlock [2, 4, 4] ![[0], [], []] d) (ix3 (0 : Fin 1) R k) = ix3 (half d) R k := by
  funext a
  apply Fin.ext
  rw [Layout.TilesN.idx_val]
  match a with
  | ⟨0, _⟩ =>
    show ((d.val / 16) % 2 * 1 + 0) * 1 + 0 = d.val / 16
    have h32 : d.val < 32 := d.isLt
    omega
  | ⟨1, _⟩ => exact (congrArg (· + R.val) (Nat.zero_mul _)).trans (Nat.zero_add _)
  | ⟨2, _⟩ => exact (congrArg (· + k.val) (Nat.zero_mul _)).trans (Nat.zero_add _)

/-! ## The equation -/

variable (m : (ℓ : Loc nD τ sig) → Buf (Elt Ideal) ℓ)

/-- What any device computes of an entry is the reference's entry: the two halves add up in either order. -/
theorem made_eq (X : FVec Ideal Cert.ReferenceIdeal.S2x1024x1024 .f32) (R : FVec Ideal S1024x1024 .f32) (G : FVec Ideal S1024 .f32)
    (h0 : ∀ c : Dev nD, part m c = Layout.blockN ⟨3, ![1, 1024, 1024]⟩ ⟨3, ![2, 1024, 1024]⟩ (Layout.meshBlock [2, 4, 4] ![[0], [], []] c) X)
    (h1 : ∀ c : Dev nD, arg1 m c = R) (h2 : ∀ c : Dev nD, arg2 m c = G) (d : Dev nD) (i l : Fin 1024) :
    made m d i l = RefSum.resRef X R G (ix2 i l) := by
  have hp : ∀ (c : Dev nD) (k : Fin 1024), part m c (ix3 (0 : Fin 1) i k) = X (ix3 (half c) i k) := fun c k =>
    (congrFun (h0 c) _).trans (congrArg X (blk_idx c _ i k))
  rw [RefSum.resRef_apply]
  unfold made
  rw [h2 d]
  refine congrArg (fun y => normed y _ _) (funext fun k => ?_)
  have e1 : resid m d (ix2 i k) = R (ix2 i k) := congrFun (h1 d) _
  rw [hp, hp, e1]
  rcases half_nbr d with ⟨ha, hb⟩ | ⟨ha, hb⟩
  · rw [ha, hb]
  · rw [ha, hb, add_comm (X (ix3 1 i k))]

/-- So the result the kernel leaves on a device is the reference's. -/
theorem result_eq (X : FVec Ideal Cert.ReferenceIdeal.S2x1024x1024 .f32) (R : FVec Ideal S1024x1024 .f32) (G : FVec Ideal S1024 .f32)
    (h0 : ∀ c : Dev nD, part m c = Layout.blockN ⟨3, ![1, 1024, 1024]⟩ ⟨3, ![2, 1024, 1024]⟩ (Layout.meshBlock [2, 4, 4] ![[0], [], []] c) X)
    (h1 : ∀ c : Dev nD, arg1 m c = R) (h2 : ∀ c : Dev nD, arg2 m c = G) (c : Dev nD) (f : S1024x1024.Idx → EReal) (h : outIs m c f) :
    f = RefSum.resRef X R G := by
  funext x
  rw [eq_ix2 x]
  obtain ⟨d, e⟩ := out_apply m c f h (x 0) (x 1)
  exact e.trans (made_eq m X R G h0 h1 h2 d (x 0) (x 1))

end Cert.RmsSum

end
-- ==== Proof.lean ====
/- The certificate's claims, from the run of the kernel (Proof/Run.lean), the run of the reference
   (Proof/RefValue.lean) and the equation between their results (Proof/Equation.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Over any float values the kernel terminates, its arguments unchanged and its counters at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => ⟨(h.1 c).1.2.1, (h.1 c).1.2.2.1, (h.1 c).2⟩, h.2⟩)
    (Cert.RmsSum.run_main (F := F) m ρ)

set_option maxRecDepth 65536 in
set_option maxHeartbeats 0 in
/-- The kernel in machine floats and the kernel over the extended reals have the same text. -/
theorem defs_eq {F : FTy → Type} [FloatOps F] : Cert.Kernel.defs (F := F) = Cert.KernelIdeal.defs (F := F) := by
  sl_kernel_rfl

/-- So the kernel in machine floats does too, -/
theorem frame_kernel : Cert.quiescent_Kernel := fun m ρ _ => by
  rw [defs_eq]
  exact frame_any (F := Bits) m ρ

/-- the kernel over the extended reals -/
theorem frame_ideal : Cert.quiescent_KernelIdeal := fun m ρ _ => frame_any (F := Ideal) m ρ

/-- and the reference. -/
theorem frame_reference : Cert.quiescent_ReferenceIdeal := fun m ρ _ =>
  (θ_run Cert.ReferenceIdeal.defs _ _).mono (fun _ h => ⟨fun c => (h.1 c).2, h.2⟩)
    (Cert.RefSum.run_ref (F := Ideal) m ρ)

/-- Over the extended reals every device ends with the reference's result. -/
theorem same_result : Cert.algebraic_KernelIdeal_ReferenceIdeal := by
  intro m ρ m' ρ' _ hagree
  refine ⟨Cert.RefSum.resRef (F := Ideal) _ _ _, ?_, (θ_run Cert.ReferenceIdeal.defs _ _).mono (fun _ h => h.1 0) (Cert.RefSum.run_ref (F := Ideal) m' ρ')⟩
  exact (θ_run Cert.KernelIdeal.defs _ _).mono
    (fun _ h c => ⟨Cert.RmsSum.result_eq m _ _ _ (fun d => (hagree d).1) (fun d => (hagree d).2.1) (fun d => (hagree d).2.2) c _ (h.1 c).1.2.2.2,
      (h.1 c).1.2.1, (h.1 c).1.2.2.1, (h.1 c).2⟩)
    (Cert.RmsSum.run_main (F := Ideal) m ρ)

/-- Everything claimed. -/
theorem claim : Cert.Claim :=
  ⟨Cert.Kernel.Gen.facts, Cert.KernelIdeal.Gen.facts, Cert.ReferenceIdeal.Gen.facts,
    frame_kernel, frame_ideal, frame_reference, trivial, same_result⟩

end Cert.Proof

end
